-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ramp [hPre_ramp : Cert.Pre_ramp.Facts] (m : (ℓ : Loc Cert.KernelIdeal.nD Cert.KernelIdeal.τ Cert.KernelIdeal.sig) → Buf (Elt Ideal) ℓ) : Prop :=
  ∀ c : Dev Cert.KernelIdeal.nD,
    (Cert.Pre_ramp.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ramp [hPre_ramp : Cert.Pre_ramp.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ramp.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_ramp [hKernelIdeal : Cert.KernelIdeal.Facts] [hPre_ramp : Cert.Pre_ramp.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ramp m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_ramp [hReferenceIdeal : Cert.ReferenceIdeal.Facts] [hPre_ramp : Cert.Pre_ramp.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ramp m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv" .f32 0x38D1BC76#32 ((9999⁻¹ : ℝ) : EReal)

def algebraic_KernelIdeal_ReferenceIdeal_pre_ramp [hKernelIdeal : Cert.KernelIdeal.Facts] [hReferenceIdeal : Cert.ReferenceIdeal.Facts] [hPre_ramp : Cert.Pre_ramp.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ramp m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_ramp : Cert.Pre_ramp.Facts),
    quiescent_Kernel (hKernel := hKernel)
    ∧ quiescent_KernelIdeal (hKernelIdeal := hKernelIdeal)
    ∧ quiescent_KernelIdeal_pre_ramp (hKernelIdeal := hKernelIdeal) (hPre_ramp := hPre_ramp)
    ∧ quiescent_ReferenceIdeal (hReferenceIdeal := hReferenceIdeal)
    ∧ quiescent_ReferenceIdeal_pre_ramp (hReferenceIdeal := hReferenceIdeal) (hPre_ramp := hPre_ramp)
    ∧ preserves_Kernel_KernelIdeal
    ∧ algebraic_KernelIdeal_ReferenceIdeal_pre_ramp (hKernelIdeal := hKernelIdeal) (hReferenceIdeal := hReferenceIdeal) (hPre_ramp := hPre_ramp)
-- ==== Pre_ramp.lean ====
abbrev S16384x1 : Shape := ⟨2, ![16384, 1]⟩
abbrev S10000 : Shape := ⟨1, ![10000]⟩
abbrev S9999 : Shape := ⟨1, ![9999]⟩
abbrev S_ : Shape := ⟨0, ![]⟩

class Facts : Prop where
  slices_S10000_S9999_0 : S10000.Slices ![0] S9999
  slices_S10000_S9999_1 : S10000.Slices ![1] S9999
  reducesTo_S9999_S_d0 : S9999.ReducesTo [0] S_
  h_S_ : 0 < S_.numel
  bcast_S_S10000 : S_.BroadcastsInDim S10000 (![] : Fin 0 → Fin S10000.rank)
  reducesTo_S10000_S_d0 : S10000.ReducesTo [0] S_

variable [Facts]

def fn {F : FTy → Type} [FloatOps F] (main_arg0 : FVec F S16384x1 .f32) (main_arg1 : FVec F S10000 .f32) (main_arg2 : FVec F S10000 .f32) : IVec S_ 1 :=
  let main_v0 : FVec F S9999 .f32 := (extractStridedSlice S9999 ![0] · slices_S10000_S9999_0) main_arg1
  let main_v1 : FVec F S9999 .f32 := (extractStridedSlice S9999 ![1] · slices_S10000_S9999_1) main_arg1
  let main_v2 : IVec S9999 1 := cmpf .ole main_v0 main_v1
  let main_c : IVec S_ 1 := constantI S_ 1 1#1
  let main_v3 : IVec S_ 1 := (fun x v => Host.reduce IntOp.andi x v reducesTo_S9999_S_d0 h_S_) main_v2 main_c
  let main_v4 : FVec F S10000 .f32 := sitofp .f32 (iotaInDim S10000 32 0)
  let main_cst : FVec F S_ .f32 := constant S_ .f32 0x461C3C00#32
  let main_v5 : FVec F S10000 .f32 := broadcastInDim S10000 ![] bcast_S_S10000 main_cst
  let main_v6 : FVec F S10000 .f32 := Host.divf main_v4 main_v5
  let main_v7 : IVec S10000 1 := cmpf .oeq main_arg2 main_v6
  let main_c_0 : IVec S_ 1 := constantI S_ 1 1#1
  let main_v8 : IVec S_ 1 := (fun x v => Host.reduce IntOp.andi x v reducesTo_S10000_S_d0 h_S_) main_v7 main_c_0
  let main_v9 : IVec S_ 1 := andi main_v3 main_v8
  main_v9
-- ==== Kernel.lean ====
abbrev S16384x1 : Shape := ⟨2, ![16384, 1]⟩
abbrev S10000 : Shape := ⟨1, ![10000]⟩
abbrev S16384 : Shape := ⟨1, ![16384]⟩
abbrev S512 : Shape := ⟨1, ![512]⟩
abbrev S_ : Shape := ⟨0, ![]⟩
abbrev S16 : Shape := ⟨1, ![16]⟩

abbrev nBuf : Table → Nat
  | .hbm => 6
  | .local .scVector .vmem => 3
  | _ => 0

abbrev bufTy : (tb : Table) → Fin (nBuf tb) → BufTy
  | .hbm, ⟨0, _⟩ => ⟨S16384x1, .f32⟩
  | .hbm, ⟨1, _⟩ => ⟨S10000, .f32⟩
  | .hbm, ⟨2, _⟩ => ⟨S10000, .f32⟩
  | .hbm, ⟨3, _⟩ => ⟨S16384, .f32⟩
  | .hbm, ⟨4, _⟩ => ⟨S16384, .f32⟩
  | .hbm, ⟨5, _⟩ => ⟨S16384x1, .f32⟩
  | .local .scVector .vmem, ⟨0, _⟩ => ⟨S10000, .f32⟩
  | .local .scVector .vmem, ⟨1, _⟩ => ⟨S512, .f32⟩
  | .local .scVector .vmem, ⟨2, _⟩ => ⟨S512, .f32⟩
  | _, _ => ⟨S16384x1, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v0_scv : Ref sig .scVector := ⟨.hbm, 3, rfl⟩
abbrev main_arg1_scv : Ref sig .scVector := ⟨.hbm, 1, rfl⟩
abbrev main_v1_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]

def k0_chk1 (v7 : IVec S16 32) : Prop :=
  (∀ a x, ((![v7] : Fin 1 → IVec S16 32) a x).toNat < S10000.size a)
theorem k0_idx1_inb : ∀ (v7 : IVec S16 32) (k0_hw1 : k0_chk1 v7), ∀ a x, ((![v7] : Fin 1 → IVec S16 32) a x).toNat < S10000.size a := fun v7 k0_hw1 => k0_hw1

def k0_chk2 (v8 : IVec S16 32) : Prop :=
  (∀ a x, ((![v8] : Fin 1 → IVec S16 32) a x).toNat < S10000.size a)
theorem k0_idx2_inb : ∀ (v8 : IVec S16 32) (k0_hw2 : k0_chk2 v8), ∀ a x, ((![v8] : Fin 1 → IVec S16 32) a x).toNat < S10000.size a := fun v8 k0_hw2 => k0_hw2
@[reducible] def k0_t1_loop : Scf.Loop 32 :=
  let c0_i32_2 : BitVec 32 := 0#32
  let c32_i32 : BitVec 32 := 32#32
  let v11 : BitVec 32 := Scalar.addi c0_i32_2 c32_i32
  let c1_i32 : BitVec 32 := 1#32
  ⟨c0_i32_2, v11, c1_i32⟩
def k0_off2 (k0_t1 : Fin k0_t1_loop.trips) : Fin 1 → Nat :=
  let c0_i32_5 : BitVec 32 := 0#32
  let c0_i32_2 : BitVec 32 := 0#32
  let c1_i32 : BitVec 32 := 1#32
  let arg10 : BitVec 32 := Scf.iv c0_i32_2 c1_i32 k0_t1
  let c1_i32_4 : BitVec 32 := 1#32
  let v12 : BitVec 32 := Scalar.muli arg10 c1_i32_4
  let v13 : BitVec 32 := Scalar.addi c0_i32_5 v12
  let c16_i32 : BitVec 32 := 16#32
  let v14 : BitVec 32 := Scalar.muli v13 c16_i32
  let v15 : Index := Scalar.indexCast v14
  ![v15.toNat]

def k0_chk3 (v19 : IVec S16 32) : Prop :=
  (∀ a x, ((![v19] : Fin 1 → IVec S16 32) a x).toNat < S10000.size a)
theorem k0_idx3_inb : ∀ (v19 : IVec S16 32) (k0_hw3 : k0_chk3 v19), ∀ a x, ((![v19] : Fin 1 → IVec S16 32) a x).toNat < S10000.size a := fun v19 k0_hw3 => k0_hw3

def k0_chk4 (v26 : IVec S16 32) : Prop :=
  (∀ a x, ((![v26] : Fin 1 → IVec S16 32) a x).toNat < S10000.size a)
theorem k0_idx4_inb : ∀ (v26 : IVec S16 32) (k0_hw4 : k0_chk4 v26), ∀ a x, ((![v26] : Fin 1 → IVec S16 32) a x).toNat < S10000.size a := fun v26 k0_hw4 => k0_hw4

def k0_chk5 (v33 : IVec S16 32) : Prop :=
  (∀ a x, ((![v33] : Fin 1 → IVec S16 32) a x).toNat < S10000.size a)
theorem k0_idx5_inb : ∀ (v33 : IVec S16 32) (k0_hw5 : k0_chk5 v33), ∀ a x, ((![v33] : Fin 1 → IVec S16 32) a x).toNat < S10000.size a := fun v33 k0_hw5 => k0_hw5

def k0_chk6 (v40 : IVec S16 32) : Prop :=
  (∀ a x, ((![v40] : Fin 1 → IVec S16 32) a x).toNat < S10000.size a)
theorem k0_idx6_inb : ∀ (v40 : IVec S16 32) (k0_hw6 : k0_chk6 v40), ∀ a x, ((![v40] : Fin 1 → IVec S16 32) a x).toNat < S10000.size a := fun v40 k0_hw6 => k0_hw6

def k0_chk7 (v47 : IVec S16 32) : Prop :=
  (∀ a x, ((![v47] : Fin 1 → IVec S16 32) a x).toNat < S10000.size a)
theorem k0_idx7_inb : ∀ (v47 : IVec S16 32) (k0_hw7 : k0_chk7 v47), ∀ a x, ((![v47] : Fin 1 → IVec S16 32) a x).toNat < S10000.size a := fun v47 k0_hw7 => k0_hw7

def k0_chk8 (v54 : IVec S16 32) : Prop :=
  (∀ a x, ((![v54] : Fin 1 → IVec S16 32) a x).toNat < S10000.size a)
theorem k0_idx8_inb : ∀ (v54 : IVec S16 32) (k0_hw8 : k0_chk8 v54), ∀ a x, ((![v54] : Fin 1 → IVec S16 32) a x).toNat < S10000.size a := fun v54 k0_hw8 => k0_hw8

def k0_chk9 (v61 : IVec S16 32) : Prop :=
  (∀ a x, ((![v61] : Fin 1 → IVec S16 32) a x).toNat < S10000.size a)
theorem k0_idx9_inb : ∀ (v61 : IVec S16 32) (k0_hw9 : k0_chk9 v61), ∀ a x, ((![v61] : Fin 1 → IVec S16 32) a x).toNat < S10000.size a := fun v61 k0_hw9 => k0_hw9

def k0_chk10 (v68 : IVec S16 32) : Prop :=
  (∀ a x, ((![v68] : Fin 1 → IVec S16 32) a x).toNat < S10000.size a)
theorem k0_idx10_inb : ∀ (v68 : IVec S16 32) (k0_hw10 : k0_chk10 v68), ∀ a x, ((![v68] : Fin 1 → IVec S16 32) a x).toNat < S10000.size a := fun v68 k0_hw10 => k0_hw10

def k0_chk11 (v75 : IVec S16 32) : Prop :=
  (∀ a x, ((![v75] : Fin 1 → IVec S16 32) a x).toNat < S10000.size a)
theorem k0_idx11_inb : ∀ (v75 : IVec S16 32) (k0_hw11 : k0_chk11 v75), ∀ a x, ((![v75] : Fin 1 → IVec S16 32) a x).toNat < S10000.size a := fun v75 k0_hw11 => k0_hw11

def k0_chk12 (v82 : IVec S16 32) : Prop :=
  (∀ a x, ((![v82] : Fin 1 → IVec S16 32) a x).toNat < S10000.size a)
theorem k0_idx12_inb : ∀ (v82 : IVec S16 32) (k0_hw12 : k0_chk12 v82), ∀ a x, ((![v82] : Fin 1 → IVec S16 32) a x).toNat < S10000.size a := fun v82 k0_hw12 => k0_hw12

def k0_chk13 (v89 : IVec S16 32) : Prop :=
  (∀ a x, ((![v89] : Fin 1 → IVec S16 32) a x).toNat < S10000.size a)
theorem k0_idx13_inb : ∀ (v89 : IVec S16 32) (k0_hw13 : k0_chk13 v89), ∀ a x, ((![v89] : Fin 1 → IVec S16 32) a x).toNat < S10000.size a := fun v89 k0_hw13 => k0_hw13

def k0_chk14 (v96 : IVec S16 32) : Prop :=
  (∀ a x, ((![v96] : Fin 1 → IVec S16 32) a x).toNat < S10000.size a)
theorem k0_idx14_inb : ∀ (v96 : IVec S16 32) (k0_hw14 : k0_chk14 v96), ∀ a x, ((![v96] : Fin 1 → IVec S16 32) a x).toNat < S10000.size a := fun v96 k0_hw14 => k0_hw14

def k0_chk15 (v103 : IVec S16 32) : Prop :=
  (∀ a x, ((![v103] : Fin 1 → IVec S16 32) a x).toNat < S10000.size a)
theorem k0_idx15_inb : ∀ (v103 : IVec S16 32) (k0_hw15 : k0_chk15 v103), ∀ a x, ((![v103] : Fin 1 → IVec S16 32) a x).toNat < S10000.size a := fun v103 k0_hw15 => k0_hw15

def k0_chk16 (v110 : IVec S16 32) : Prop :=
  (∀ a x, ((![v110] : Fin 1 → IVec S16 32) a x).toNat < S10000.size a)
theorem k0_idx16_inb : ∀ (v110 : IVec S16 32) (k0_hw16 : k0_chk16 v110), ∀ a x, ((![v110] : Fin 1 → IVec S16 32) a x).toNat < S10000.size a := fun v110 k0_hw16 => k0_hw16

def k0_chk17 (v117 : IVec S16 32) : Prop :=
  (∀ a x, ((![v117] : Fin 1 → IVec S16 32) a x).toNat < S10000.size a)
theorem k0_idx17_inb : ∀ (v117 : IVec S16 32) (k0_hw17 : k0_chk17 v117), ∀ a x, ((![v117] : Fin 1 → IVec S16 32) a x).toNat < S10000.size a := fun v117 k0_hw17 => k0_hw17

def k0_chk18 (v120 : IVec S16 32) : Prop :=
  (∀ a x, ((![v120] : Fin 1 → IVec S16 32) a x).toNat < S10000.size a)
theorem k0_idx18_inb : ∀ (v120 : IVec S16 32) (k0_hw18 : k0_chk18 v120), ∀ a x, ((![v120] : Fin 1 → IVec S16 32) a x).toNat < S10000.size a := fun v120 k0_hw18 => k0_hw18
def k0_off3 (k0_t1 : Fin k0_t1_loop.trips) : Fin 1 → Nat :=
  let c0_i32_5 : BitVec 32 := 0#32
  let c0_i32_2 : BitVec 32 := 0#32
  let c1_i32 : BitVec 32 := 1#32
  let arg10 : BitVec 32 := Scf.iv c0_i32_2 c1_i32 k0_t1
  let c1_i32_4 : BitVec 32 := 1#32
  let v12 : BitVec 32 := Scalar.muli arg10 c1_i32_4
  let v13 : BitVec 32 := Scalar.addi c0_i32_5 v12
  let c16_i32_27 : BitVec 32 := 16#32
  let v137 : BitVec 32 := Scalar.muli v13 c16_i32_27
  let v138 : Index := Scalar.indexCast v137
  ![v138.toNat]
def k0_off4 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "inv" => some ((9999⁻¹ : ℝ) : EReal)
  | _ => none
-- ==== ReferenceIdeal.lean ====
abbrev S16384x1 : Shape := ⟨2, ![16384, 1]⟩
abbrev S10000 : Shape := ⟨1, ![10000]⟩
abbrev S16384 : Shape := ⟨1, ![16384]⟩
abbrev S1x10000 : Shape := ⟨2, ![1, 10000]⟩
abbrev S16384x10000 : Shape := ⟨2, ![16384, 10000]⟩
abbrev S_ : Shape := ⟨0, ![]⟩
abbrev S1 : Shape := ⟨1, ![1]⟩

abbrev nBuf : Space → Nat
  | .hbm => 136
  | .vmem => 0
  | .smem => 0
  | _ => 0

abbrev hbmTy0_0 (i : Nat) : BufTy := match i % 128 with
  | 0 => ⟨S16384x1, .f32⟩
  | 1 => ⟨S10000, .f32⟩
  | 2 => ⟨S10000, .f32⟩
  | 3 => ⟨S16384, .f32⟩
  | 4 => ⟨S1x10000, .f32⟩
  | 5 => ⟨S16384x1, .f32⟩
  | 6 => ⟨S16384x10000, .f32⟩
  | 7 => ⟨S16384x10000, .f32⟩
  | 8 => ⟨S16384x10000, .i1⟩
  | 9 => ⟨S16384x10000, .i16⟩
  | 10 => ⟨S16384x10000, .i32⟩
  | 11 => ⟨S_, .i16⟩
  | 12 => ⟨S_, .i32⟩
  | 13 => ⟨S16384, .i16⟩
  | 14 => ⟨S16384, .i32⟩
  | 15 => ⟨S_, .i32⟩
  | 16 => ⟨S_, .i32⟩
  | 17 => ⟨S_, .i1⟩
  | 18 => ⟨S_, .i32⟩
  | 19 => ⟨S_, .i32⟩
  | 20 => ⟨S16384, .i32⟩
  | 21 => ⟨S16384, .i32⟩
  | 22 => ⟨S_, .i32⟩
  | 23 => ⟨S16384, .i32⟩
  | 24 => ⟨S16384, .i1⟩
  | 25 => ⟨S_, .i32⟩
  | 26 => ⟨S16384, .i32⟩
  | 27 => ⟨S16384, .i1⟩
  | 28 => ⟨S_, .i32⟩
  | 29 => ⟨S_, .i1⟩
  | 30 => ⟨S16384, .i1⟩
  | 31 => ⟨S16384, .i1⟩
  | 32 => ⟨S16384, .i1⟩
  | 33 => ⟨S16384, .i32⟩
  | 34 => ⟨S16384, .i32⟩
  | 35 => ⟨S16384, .i32⟩
  | 36 => ⟨S16384x1, .i32⟩
  | 37 => ⟨S16384, .f32⟩
  | 38 => ⟨S_, .i32⟩
  | 39 => ⟨S16384, .i32⟩
  | 40 => ⟨S16384, .i32⟩
  | 41 => ⟨S_, .i32⟩
  | 42 => ⟨S_, .i32⟩
  | 43 => ⟨S_, .i1⟩
  | 44 => ⟨S_, .i32⟩
  | 45 => ⟨S_, .i32⟩
  | 46 => ⟨S16384, .i32⟩
  | 47 => ⟨S16384, .i32⟩
  | 48 => ⟨S_, .i32⟩
  | 49 => ⟨S16384, .i32⟩
  | 50 => ⟨S16384, .i1⟩
  | 51 => ⟨S_, .i32⟩
  | 52 => ⟨S16384, .i32⟩
  | 53 => ⟨S16384, .i1⟩
  | 54 => ⟨S_, .i32⟩
  | 55 => ⟨S_, .i1⟩
  | 56 => ⟨S16384, .i1⟩
  | 57 => ⟨S16384, .i1⟩
  | 58 => ⟨S16384, .i1⟩
  | 59 => ⟨S16384, .i32⟩
  | 60 => ⟨S16384, .i32⟩
  | 61 => ⟨S16384, .i32⟩
  | 62 => ⟨S16384x1, .i32⟩
  | 63 => ⟨S16384, .f32⟩
  | 64 => ⟨S_, .i32⟩
  | 65 => ⟨S_, .i32⟩
  | 66 => ⟨S_, .i1⟩
  | 67 => ⟨S_, .i32⟩
  | 68 => ⟨S_, .i32⟩
  | 69 => ⟨S16384, .i32⟩
  | 70 => ⟨S16384, .i32⟩
  | 71 => ⟨S_, .i32⟩
  | 72 => ⟨S16384, .i32⟩
  | 73 => ⟨S16384, .i1⟩
  | 74 => ⟨S_, .i32⟩
  | 75 => ⟨S16384, .i32⟩
  | 76 => ⟨S16384, .i1⟩
  | 77 => ⟨S_, .i32⟩
  | 78 => ⟨S_, .i1⟩
  | 79 => ⟨S16384, .i1⟩
  | 80 => ⟨S16384, .i1⟩
  | 81 => ⟨S16384, .i1⟩
  | 82 => ⟨S16384, .i32⟩
  | 83 => ⟨S16384, .i32⟩
  | 84 => ⟨S16384, .i32⟩
  | 85 => ⟨S16384x1, .i32⟩
  | 86 => ⟨S16384, .f32⟩
  | 87 => ⟨S_, .i32⟩
  | 88 => ⟨S16384, .i32⟩
  | 89 => ⟨S16384, .i32⟩
  | 90 => ⟨S_, .i32⟩
  | 91 => ⟨S_, .i32⟩
  | 92 => ⟨S_, .i1⟩
  | 93 => ⟨S_, .i32⟩
  | 94 => ⟨S_, .i32⟩
  | 95 => ⟨S16384, .i32⟩
  | 96 => ⟨S16384, .i32⟩
  | 97 => ⟨S_, .i32⟩
  | 98 => ⟨S16384, .i32⟩
  | 99 => ⟨S16384, .i1⟩
  | 100 => ⟨S_, .i32⟩
  | 101 => ⟨S16384, .i32⟩
  | 102 => ⟨S16384, .i1⟩
  | 103 => ⟨S_, .i32⟩
  | 104 => ⟨S_, .i1⟩
  | 105 => ⟨S16384, .i1⟩
  | 106 => ⟨S16384, .i1⟩
  | 107 => ⟨S16384, .i1⟩
  | 108 => ⟨S16384, .i32⟩
  | 109 => ⟨S16384, .i32⟩
  | 110 => ⟨S16384, .i32⟩
  | 111 => ⟨S16384x1, .i32⟩
  | 112 => ⟨S16384, .f32⟩
  | 113 => ⟨S16384, .f32⟩
  | 114 => ⟨S16384, .f32⟩
  | 115 => ⟨S16384, .f32⟩
  | 116 => ⟨S16384, .f32⟩
  | 117 => ⟨S16384, .f32⟩
  | 118 => ⟨S16384, .f32⟩
  | 119 => ⟨S1, .f32⟩
  | 120 => ⟨S_, .f32⟩
  | 121 => ⟨S16384, .f32⟩
  | 122 => ⟨S16384, .i1⟩
  | 123 => ⟨S1, .f32⟩
  | 124 => ⟨S_, .f32⟩
  | 125 => ⟨S1, .f32⟩
  | 126 => ⟨S_, .f32⟩
  | 127 => ⟨S16384, .f32⟩
  | _ => ⟨S16384x1, .f32⟩

abbrev hbmTy0_1 (i : Nat) : BufTy := match i % 128 with
  | 0 => ⟨S16384, .i1⟩
  | 1 => ⟨S1, .f32⟩
  | 2 => ⟨S_, .f32⟩
  | 3 => ⟨S16384, .f32⟩
  | 4 => ⟨S16384, .f32⟩
  | 5 => ⟨S16384, .f32⟩
  | 6 => ⟨S16384, .f32⟩
  | 7 => ⟨S16384x1, .f32⟩
  | _ => ⟨S16384x1, .f32⟩

abbrev hbmTy (i : Nat) : BufTy := match i / 128 with
  | 0 => hbmTy0_0 i
  | 1 => hbmTy0_1 i
  | _ => ⟨S16384x1, .f32⟩

abbrev bufTy : (tb : Table) → Fin (tcTables nBuf tb) → BufTy
  | .hbm, ⟨i, _⟩ => hbmTy i
  | _, _ => ⟨S16384x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_c : Ref sig .tc := ⟨.hbm, 11, rfl⟩
abbrev main_call0_c_0 : Ref sig .tc := ⟨.hbm, 12, rfl⟩
abbrev main_call0_v1_0 : Ref sig .tc := ⟨.hbm, 13, rfl⟩
abbrev main_v7 : Ref sig .tc := ⟨.hbm, 14, rfl⟩
abbrev main_call1_c : Ref sig .tc := ⟨.hbm, 15, rfl⟩
abbrev main_call1_call0_c : Ref sig .tc := ⟨.hbm, 16, rfl⟩
abbrev main_call1_call0_v0 : Ref sig .tc := ⟨.hbm, 17, rfl⟩
abbrev main_call1_call0_c_0 : Ref sig .tc := ⟨.hbm, 18, rfl⟩
abbrev main_call1_call0_v1 : Ref sig .tc := ⟨.hbm, 19, rfl⟩
abbrev main_call1_call0_v2 : Ref sig .tc := ⟨.hbm, 20, rfl⟩
abbrev main_call1_call0_v3 : Ref sig .tc := ⟨.hbm, 21, rfl⟩
abbrev main_call1_call0_c_1 : Ref sig .tc := ⟨.hbm, 22, rfl⟩
abbrev main_call1_call0_v4 : Ref sig .tc := ⟨.hbm, 23, rfl⟩
abbrev main_call1_call0_v5 : Ref sig .tc := ⟨.hbm, 24, rfl⟩
abbrev main_call1_call0_c_2 : Ref sig .tc := ⟨.hbm, 25, rfl⟩
abbrev main_call1_call0_v6 : Ref sig .tc := ⟨.hbm, 26, rfl⟩
abbrev main_call1_call0_v7 : Ref sig .tc := ⟨.hbm, 27, rfl⟩
abbrev main_call1_call0_c_3 : Ref sig .tc := ⟨.hbm, 28, rfl⟩
abbrev main_call1_call0_v8 : Ref sig .tc := ⟨.hbm, 29, rfl⟩
abbrev main_call1_call0_v9 : Ref sig .tc := ⟨.hbm, 30, rfl⟩
abbrev main_call1_call0_v10 : Ref sig .tc := ⟨.hbm, 31, rfl⟩
abbrev main_call1_call0_v11 : Ref sig .tc := ⟨.hbm, 32, rfl⟩
abbrev main_call1_call0_v12 : Ref sig .tc := ⟨.hbm, 33, rfl⟩
abbrev main_call1_call0_v13 : Ref sig .tc := ⟨.hbm, 34, rfl⟩
abbrev main_call1_v0 : Ref sig .tc := ⟨.hbm, 35, rfl⟩
abbrev main_call1_v1 : Ref sig .tc := ⟨.hbm, 36, rfl⟩
abbrev main_v8 : Ref sig .tc := ⟨.hbm, 37, rfl⟩
abbrev main_c : Ref sig .tc := ⟨.hbm, 38, rfl⟩
abbrev main_v9 : Ref sig .tc := ⟨.hbm, 39, rfl⟩
abbrev main_v10 : Ref sig .tc := ⟨.hbm, 40, rfl⟩
abbrev main_call2_c : Ref sig .tc := ⟨.hbm, 41, rfl⟩
abbrev main_call2_call0_c : Ref sig .tc := ⟨.hbm, 42, rfl⟩
abbrev main_call2_call0_v0 : Ref sig .tc := ⟨.hbm, 43, rfl⟩
abbrev main_call2_call0_c_0 : Ref sig .tc := ⟨.hbm, 44, rfl⟩
abbrev main_call2_call0_v1 : Ref sig .tc := ⟨.hbm, 45, rfl⟩
abbrev main_call2_call0_v2 : Ref sig .tc := ⟨.hbm, 46, rfl⟩
abbrev main_call2_call0_v3 : Ref sig .tc := ⟨.hbm, 47, rfl⟩
abbrev main_call2_call0_c_1 : Ref sig .tc := ⟨.hbm, 48, rfl⟩
abbrev main_call2_call0_v4 : Ref sig .tc := ⟨.hbm, 49, rfl⟩
abbrev main_call2_call0_v5 : Ref sig .tc := ⟨.hbm, 50, rfl⟩
abbrev main_call2_call0_c_2 : Ref sig .tc := ⟨.hbm, 51, rfl⟩
abbrev main_call2_call0_v6 : Ref sig .tc := ⟨.hbm, 52, rfl⟩
abbrev main_call2_call0_v7 : Ref sig .tc := ⟨.hbm, 53, rfl⟩
abbrev main_call2_call0_c_3 : Ref sig .tc := ⟨.hbm, 54, rfl⟩
abbrev main_call2_call0_v8 : Ref sig .tc := ⟨.hbm, 55, rfl⟩
abbrev main_call2_call0_v9 : Ref sig .tc := ⟨.hbm, 56, rfl⟩
abbrev main_call2_call0_v10 : Ref sig .tc := ⟨.hbm, 57, rfl⟩
abbrev main_call2_call0_v11 : Ref sig .tc := ⟨.hbm, 58, rfl⟩
abbrev main_call2_call0_v12 : Ref sig .tc := ⟨.hbm, 59, rfl⟩
abbrev main_call2_call0_v13 : Ref sig .tc := ⟨.hbm, 60, rfl⟩
abbrev main_call2_v0 : Ref sig .tc := ⟨.hbm, 61, rfl⟩
abbrev main_call2_v1 : Ref sig .tc := ⟨.hbm, 62, rfl⟩
abbrev main_v11 : Ref sig .tc := ⟨.hbm, 63, rfl⟩
abbrev main_call3_c : Ref sig .tc := ⟨.hbm, 64, rfl⟩
abbrev main_call3_call0_c : Ref sig .tc := ⟨.hbm, 65, rfl⟩
abbrev main_call3_call0_v0 : Ref sig .tc := ⟨.hbm, 66, rfl⟩
abbrev main_call3_call0_c_0 : Ref sig .tc := ⟨.hbm, 67, rfl⟩
abbrev main_call3_call0_v1 : Ref sig .tc := ⟨.hbm, 68, rfl⟩
abbrev main_call3_call0_v2 : Ref sig .tc := ⟨.hbm, 69, rfl⟩
abbrev main_call3_call0_v3 : Ref sig .tc := ⟨.hbm, 70, rfl⟩
abbrev main_call3_call0_c_1 : Ref sig .tc := ⟨.hbm, 71, rfl⟩
abbrev main_call3_call0_v4 : Ref sig .tc := ⟨.hbm, 72, rfl⟩
abbrev main_call3_call0_v5 : Ref sig .tc := ⟨.hbm, 73, rfl⟩
abbrev main_call3_call0_c_2 : Ref sig .tc := ⟨.hbm, 74, rfl⟩
abbrev main_call3_call0_v6 : Ref sig .tc := ⟨.hbm, 75, rfl⟩
abbrev main_call3_call0_v7 : Ref sig .tc := ⟨.hbm, 76, rfl⟩
abbrev main_call3_call0_c_3 : Ref sig .tc := ⟨.hbm, 77, rfl⟩
abbrev main_call3_call0_v8 : Ref sig .tc := ⟨.hbm, 78, rfl⟩
abbrev main_call3_call0_v9 : Ref sig .tc := ⟨.hbm, 79, rfl⟩
abbrev main_call3_call0_v10 : Ref sig .tc := ⟨.hbm, 80, rfl⟩
abbrev main_call3_call0_v11 : Ref sig .tc := ⟨.hbm, 81, rfl⟩
abbrev main_call3_call0_v12 : Ref sig .tc := ⟨.hbm, 82, rfl⟩
abbrev main_call3_call0_v13 : Ref sig .tc := ⟨.hbm, 83, rfl⟩
abbrev main_call3_v0 : Ref sig .tc := ⟨.hbm, 84, rfl⟩
abbrev main_call3_v1 : Ref sig .tc := ⟨.hbm, 85, rfl⟩
abbrev main_v12 : Ref sig .tc := ⟨.hbm, 86, rfl⟩
abbrev main_c_0 : Ref sig .tc := ⟨.hbm, 87, rfl⟩
abbrev main_v13 : Ref sig .tc := ⟨.hbm, 88, rfl⟩
abbrev main_v14 : Ref sig .tc := ⟨.hbm, 89, rfl⟩
abbrev main_call4_c : Ref sig .tc := ⟨.hbm, 90, rfl⟩
abbrev main_call4_call0_c : Ref sig .tc := ⟨.hbm, 91, rfl⟩
abbrev main_call4_call0_v0 : Ref sig .tc := ⟨.hbm, 92, rfl⟩
abbrev main_call4_call0_c_0 : Ref sig .tc := ⟨.hbm, 93, rfl⟩
abbrev main_call4_call0_v1 : Ref sig .tc := ⟨.hbm, 94, rfl⟩
abbrev main_call4_call0_v2 : Ref sig .tc := ⟨.hbm, 95, rfl⟩
abbrev main_call4_call0_v3 : Ref sig .tc := ⟨.hbm, 96, rfl⟩
abbrev main_call4_call0_c_1 : Ref sig .tc := ⟨.hbm, 97, rfl⟩
abbrev main_call4_call0_v4 : Ref sig .tc := ⟨.hbm, 98, rfl⟩
abbrev main_call4_call0_v5 : Ref sig .tc := ⟨.hbm, 99, rfl⟩
abbrev main_call4_call0_c_2 : Ref sig .tc := ⟨.hbm, 100, rfl⟩
abbrev main_call4_call0_v6 : Ref sig .tc := ⟨.hbm, 101, rfl⟩
abbrev main_call4_call0_v7 : Ref sig .tc := ⟨.hbm, 102, rfl⟩
abbrev main_call4_call0_c_3 : Ref sig .tc := ⟨.hbm, 103, rfl⟩
abbrev main_call4_call0_v8 : Ref sig .tc := ⟨.hbm, 104, rfl⟩
abbrev main_call4_call0_v9 : Ref sig .tc := ⟨.hbm, 105, rfl⟩
abbrev main_call4_call0_v10 : Ref sig .tc := ⟨.hbm, 106, rfl⟩
abbrev main_call4_call0_v11 : Ref sig .tc := ⟨.hbm, 107, rfl⟩
abbrev main_call4_call0_v12 : Ref sig .tc := ⟨.hbm, 108, rfl⟩
abbrev main_call4_call0_v13 : Ref sig .tc := ⟨.hbm, 109, rfl⟩
abbrev main_call4_v0 : Ref sig .tc := ⟨.hbm, 110, rfl⟩
abbrev main_call4_v1 : Ref sig .tc := ⟨.hbm, 111, rfl⟩
abbrev main_v15 : Ref sig .tc := ⟨.hbm, 112, rfl⟩
abbrev main_v16 : Ref sig .tc := ⟨.hbm, 113, rfl⟩
abbrev main_v17 : Ref sig .tc := ⟨.hbm, 114, rfl⟩
abbrev main_v18 : Ref sig .tc := ⟨.hbm, 115, rfl⟩
abbrev main_v19 : Ref sig .tc := ⟨.hbm, 116, rfl⟩
abbrev main_v20 : Ref sig .tc := ⟨.hbm, 117, rfl⟩
abbrev main_v21 : Ref sig .tc := ⟨.hbm, 118, rfl⟩
abbrev main_v22 : Ref sig .tc := ⟨.hbm, 119, rfl⟩
abbrev main_v23 : Ref sig .tc := ⟨.hbm, 120, rfl⟩
abbrev main_v24 : Ref sig .tc := ⟨.hbm, 121, rfl⟩
abbrev main_v25 : Ref sig .tc := ⟨.hbm, 122, rfl⟩
abbrev main_v26 : Ref sig .tc := ⟨.hbm, 123, rfl⟩
abbrev main_v27 : Ref sig .tc := ⟨.hbm, 124, rfl⟩
abbrev main_v28 : Ref sig .tc := ⟨.hbm, 125, rfl⟩
abbrev main_v29 : Ref sig .tc := ⟨.hbm, 126, rfl⟩
abbrev main_v30 : Ref sig .tc := ⟨.hbm, 127, rfl⟩
abbrev main_v31 : Ref sig .tc := ⟨.hbm, 128, rfl⟩
abbrev main_v32 : Ref sig .tc := ⟨.hbm, 129, rfl⟩
abbrev main_v33 : Ref sig .tc := ⟨.hbm, 130, rfl⟩
abbrev main_call5_v0 : Ref sig .tc := ⟨.hbm, 131, rfl⟩
abbrev main_v34 : Ref sig .tc := ⟨.hbm, 132, rfl⟩
abbrev main_call6_v0 : Ref sig .tc := ⟨.hbm, 133, rfl⟩
abbrev main_v35 : Ref sig .tc := ⟨.hbm, 134, rfl⟩
abbrev main_v36 : Ref sig .tc := ⟨.hbm, 135, rfl⟩

abbrev nD : Nat := 1
abbrev τ : Topo := Topo.v7x

variable {F : FTy → Type} [FloatOps F]
-- ==== Proof.Search.lean ====
/-
  The search that every lane of the kernel makes in the table, as a function of the table and of the lane's number.

  The kernel keeps, per lane, a position `base` and halves a length: at each of fourteen rounds it reads the table at
  `base + off` and, when the entry read is at most the lane's number, moves `base` just past it. Two facts are proved.
  First, whatever the table holds, every position read is a position of the table (`probe_lt`, `base_le`). Second, when
  "entry at most the number" holds on a prefix of the table and fails at its last entry, the final position is the
  length of that prefix (`base_spec`).
-/
module

public import proofs.«01_k».proof.Proof.Gen.KernelIdeal
public import proofs.«01_k».proof.Proof.Gen.KernelIdeal.Skeleton

@[expose] public section

noncomputable section

namespace Cert.Proof.Search

open Cert.KernelIdeal Cert.KernelIdeal.Gen
open Idealize.ShloMosaic

variable {F : FTy → Type} [FloatOps F]

/-! ## One lane -/

/-- Position `n` of the table, as a multi-index (positions past the end wrap, so that this is total). -/
def pos (n : Nat) : S10000.Idx :=
  fun a => ⟨n % 10000, by obtain rfl : a = 0 := Subsingleton.elim _ _; exact Nat.mod_lt _ (by norm_num)⟩

/-- What round `k` adds to the position before it reads. -/
def off : Nat → Nat
  | 0 => 4999 | 1 => 2499 | 2 => 1249 | 3 => 624 | 4 => 311 | 5 => 155 | 6 => 77 | 7 => 38 | 8 => 19 | 9 => 9 | 10 => 4
  | 11 => 1 | _ => 0

/-- The position read, from the position so far. -/
def ahead (k : Nat) (b : BitVec 32) : BitVec 32 := IntOp.addi b (BitVec.ofNat 32 (off k))

/-- The position after the first `k` rounds. -/
def base (tab : Vec F S10000 .f32) (x : F .f32) : Nat → BitVec 32
  | 0 => 0#32
  | k + 1 => Scalar.select (FloatOps.cmpf .ole (tab (pos (ahead k (base tab x k)).toNat)) x)
      (IntOp.addi (ahead k (base tab x k)) 1#32) (base tab x k)

/-- The position round `k` reads. -/
def probe (tab : Vec F S10000 .f32) (x : F .f32) (k : Nat) : BitVec 32 := ahead k (base tab x k)

/-- The upper end of the bracket the kernel interpolates in: the final position, at least one. -/
def upper (tab : Vec F S10000 .f32) (x : F .f32) : BitVec 32 := IntOp.maxsi (base tab x 14) 1#32

/-- Its lower end. -/
def lower (tab : Vec F S10000 .f32) (x : F .f32) : BitVec 32 := IntOp.subi (upper tab x) 1#32

/-- The lane's result: the number's place between the two entries, the clamps of the table's ends applied. -/
def point [Named F] (tab : Vec F S10000 .f32) (x : F .f32) : F .f32 :=
  Scalar.select (FloatOps.cmpf .oge x (tab (pos 9999))) (Scalar.ofBits .f32 0x3F800000#32)
    (Scalar.select (FloatOps.cmpf .ole x (tab (pos 0))) (Scalar.ofBits .f32 0x00000000#32)
      (FloatOps.mulf
        (FloatOps.addf (FloatOps.sitofp .f32 (lower tab x))
          (FloatOps.divf (FloatOps.subf x (tab (pos (lower tab x).toNat)))
            (FloatOps.subf (tab (pos (upper tab x).toNat)) (tab (pos (lower tab x).toNat)))))
        (Named.named κ "inv" 0x38D1BC76#32)))

/-! ## Every position read is one of the table's -/

/-- The largest position reachable after `k` rounds. -/
def reach : Nat → Nat
  | 0 => 0
  | k + 1 => reach k + off k + 1

theorem reach_le : ∀ k ≤ 14, reach k ≤ 9999 := by decide
theorem reach_off_le : ∀ k < 14, reach k + off k + 1 ≤ 9999 := by decide

theorem ahead_toNat {k : Nat} (hk : k < 14) {b : BitVec 32} (hb : b.toNat ≤ reach k) : (ahead k b).toNat = b.toNat + off k := by
  have := reach_off_le k hk
  unfold ahead IntOp.addi
  rw [BitVec.toNat_add, BitVec.toNat_ofNat]
  omega

theorem next_toNat {k : Nat} (hk : k < 14) {b : BitVec 32} (hb : b.toNat ≤ reach k) :
    (IntOp.addi (ahead k b) 1#32).toNat = b.toNat + off k + 1 := by
  have := reach_off_le k hk
  have h := ahead_toNat hk hb
  unfold IntOp.addi
  rw [BitVec.toNat_add, h]
  simp only [BitVec.toNat_ofNat]
  omega

theorem base_le_reach (tab : Vec F S10000 .f32) (x : F .f32) : ∀ k ≤ 14, (base tab x k).toNat ≤ reach k
  | 0, _ => by simp [base, reach]
  | k + 1, hk => by
    have ih := base_le_reach tab x k (by omega)
    rw [base, Scalar.select]
    split
    · rw [next_toNat (by omega) ih]; simp only [reach]; omega
    · simp only [reach]; omega

theorem base_le (tab : Vec F S10000 .f32) (x : F .f32) {k : Nat} (hk : k ≤ 14) : (base tab x k).toNat ≤ 9999 :=
  (base_le_reach tab x k hk).trans (reach_le k hk)

theorem probe_toNat (tab : Vec F S10000 .f32) (x : F .f32) {k : Nat} (hk : k < 14) :
    (probe tab x k).toNat = (base tab x k).toNat + off k := ahead_toNat hk (base_le_reach tab x k hk.le)

theorem probe_lt (tab : Vec F S10000 .f32) (x : F .f32) {k : Nat} (hk : k < 14) : (probe tab x k).toNat < 10000 := by
  have h := base_le_reach tab x k hk.le
  have h' := reach_off_le k hk
  rw [probe_toNat tab x hk]; omega

theorem upper_toNat (tab : Vec F S10000 .f32) (x : F .f32) : (upper tab x).toNat = max (base tab x 14).toNat 1 := by
  have h := base_le tab x (le_refl 14)
  unfold upper IntOp.maxsi
  have hs : BitVec.slt 1#32 (base tab x 14) = decide (1 < (base tab x 14).toNat) := by
    rw [BitVec.slt_eq_decide, BitVec.toInt_eq_toNat_cond, BitVec.toInt_eq_toNat_cond]
    simp only [BitVec.toNat_ofNat]
    rw [if_pos (by omega), if_pos (by omega)]
    norm_num
  rw [hs]
  by_cases h1 : 1 < (base tab x 14).toNat
  · rw [if_pos (by simpa using h1)]; omega
  · rw [if_neg (by simpa using h1)]
    simp only [BitVec.toNat_ofNat]; omega

theorem upper_lt (tab : Vec F S10000 .f32) (x : F .f32) : (upper tab x).toNat < 10000 := by
  have h := base_le tab x (le_refl 14)
  rw [upper_toNat]; omega

theorem lower_toNat (tab : Vec F S10000 .f32) (x : F .f32) : (lower tab x).toNat = max (base tab x 14).toNat 1 - 1 := by
  have h := upper_lt tab x
  have h' := upper_toNat tab x
  unfold lower IntOp.subi
  rw [BitVec.toNat_sub, h']
  simp only [BitVec.toNat_ofNat]
  omega

theorem lower_lt (tab : Vec F S10000 .f32) (x : F .f32) : (lower tab x).toNat < 10000 := by
  have h := base_le tab x (le_refl 14)
  rw [lower_toNat]; omega

/-! ## Where the search ends -/

/-- The length left after `k` rounds. -/
def len : Nat → Nat
  | 0 => 10000
  | k + 1 => len k - (off k + 1)

theorem half_le : ∀ k < 14, off k + 1 ≤ len (k + 1) := by decide
theorem half_le' : ∀ k < 14, off k + 1 ≤ len k := by decide

/-- Let `P n` say that entry `n` is at most the number. If `P` holds below every position where it holds, and fails at
    the last, then after `k` rounds `P` holds below the position and fails at the end of the length left. -/
theorem base_inv (tab : Vec F S10000 .f32) (x : F .f32) (P : Nat → Prop)
    (hP : ∀ n < 10000, P n ↔ FloatOps.cmpf .ole (tab (pos n)) x = 1#1)
    (hdown : ∀ n n', n ≤ n' → n' < 10000 → P n' → P n) (hlast : ¬ P 9999) :
    ∀ k ≤ 14, (∀ n < (base tab x k).toNat, P n) ∧ (base tab x k).toNat + len k ≤ 10000 ∧ ¬ P ((base tab x k).toNat + len k - 1)
  | 0, _ => by simp [base, len, hlast]
  | k + 1, hk => by
    obtain ⟨h1, h2, h3⟩ := base_inv tab x P hP hdown hlast k (by omega)
    have hr := base_le_reach tab x k (by omega)
    have hh := half_le k (by omega)
    have hh' := half_le' k (by omega)
    have hn := next_toNat (by omega) hr
    have ha := ahead_toNat (by omega) hr
    have hro := reach_off_le k (by omega)
    have hl : len (k + 1) = len k - (off k + 1) := rfl
    rw [base, Scalar.select]
    split
    · rename_i hc
      have hp : P (ahead k (base tab x k)).toNat := (hP _ (by omega)).mpr hc
      rw [ha] at hp
      rw [hn]
      refine ⟨fun n hn' => hdown n _ (by omega) (by omega) hp, by omega, ?_⟩
      rwa [show (base tab x k).toNat + off k + 1 + len (k + 1) - 1 = (base tab x k).toNat + len k - 1 by omega]
    · rename_i hc
      have hp : ¬ P (ahead k (base tab x k)).toNat := fun h => hc ((hP _ (by omega)).mp h)
      rw [ha] at hp
      exact ⟨h1, by omega, fun h => hp (hdown _ _ (by omega) (by omega) h)⟩

/-- The final position: `P` holds below it and fails at it. -/
theorem base_spec (tab : Vec F S10000 .f32) (x : F .f32) (P : Nat → Prop)
    (hP : ∀ n < 10000, P n ↔ FloatOps.cmpf .ole (tab (pos n)) x = 1#1)
    (hdown : ∀ n n', n ≤ n' → n' < 10000 → P n' → P n) (hlast : ¬ P 9999) :
    (∀ n < (base tab x 14).toNat, P n) ∧ ¬ P (base tab x 14).toNat := by
  obtain ⟨h1, -, h3⟩ := base_inv tab x P hP hdown hlast 14 le_rfl
  exact ⟨h1, by simpa [show len 14 = 1 by decide] using h3⟩

/-! ## Sixteen lanes at once: the kernel's payloads -/

/-- The table read at sixteen positions. -/
def look (tab : Vec F S10000 .f32) (v : IVec S16 32) : Vec F S16 .f32 := fun l => tab (pos (v l).toNat)

theorem loadIdx_look (tab : Vec F S10000 .f32) (v : IVec S16 32) (h : ∀ a x, ((![v] : Fin 1 → IVec S16 32) a x).toNat < S10000.size a) :
    loadIdx tab (![v] : Fin 1 → IVec S16 32) h = look tab v := by
  funext l
  refine congrArg tab (funext fun a => Fin.ext ?_)
  obtain rfl : a = 0 := Subsingleton.elim _ _
  exact (Nat.mod_eq_of_lt (h 0 l)).symm

/-- A vector of positions below the table's length passes the kernel's check of it. -/
theorem inb_of_lt {v : IVec S16 32} (h : ∀ l, (v l).toNat < 10000) : ∀ a x, ((![v] : Fin 1 → IVec S16 32) a x).toNat < S10000.size a := by
  intro a l
  obtain rfl : a = 0 := Subsingleton.elim _ _
  exact h l

def bases (tab : Vec F S10000 .f32) (xv : Vec F S16 .f32) (k : Nat) : IVec S16 32 := fun l => base tab (xv l) k
def probes (tab : Vec F S10000 .f32) (xv : Vec F S16 .f32) (k : Nat) : IVec S16 32 := fun l => probe tab (xv l) k
def uppers (tab : Vec F S10000 .f32) (xv : Vec F S16 .f32) : IVec S16 32 := fun l => upper tab (xv l)
def lowers (tab : Vec F S10000 .f32) (xv : Vec F S16 .f32) : IVec S16 32 := fun l => lower tab (xv l)
def points [Named F] (tab : Vec F S10000 .f32) (xv : Vec F S16 .f32) : Vec F S16 .f32 := fun l => point tab (xv l)

theorem probes_inb (tab : Vec F S10000 .f32) (xv : Vec F S16 .f32) {k : Nat} (hk : k < 14) :
    ∀ a x, ((![probes tab xv k] : Fin 1 → IVec S16 32) a x).toNat < S10000.size a := inb_of_lt fun l => probe_lt tab (xv l) hk
theorem uppers_inb (tab : Vec F S10000 .f32) (xv : Vec F S16 .f32) :
    ∀ a x, ((![uppers tab xv] : Fin 1 → IVec S16 32) a x).toNat < S10000.size a := inb_of_lt fun l => upper_lt tab (xv l)
theorem lowers_inb (tab : Vec F S10000 .f32) (xv : Vec F S16 .f32) :
    ∀ a x, ((![lowers tab xv] : Fin 1 → IVec S16 32) a x).toNat < S10000.size a := inb_of_lt fun l => lower_lt tab (xv l)

section Payloads

variable (tab : Vec F S10000 .f32) (xv : Vec F S16 .f32)

local notation "p" => probes tab xv
local notation "r" => fun k => look tab (probes tab xv k)

theorem pay2 : k0_pay2 = p 0 := rfl
theorem pay3 : k0_pay3 xv (p 0) (r 0) = bases tab xv 1 := rfl
theorem pay4 : k0_pay4 xv (p 0) (r 0) = p 1 := rfl
theorem pay5 : k0_pay5 xv (p 0) (r 0) (p 1) (r 1) = bases tab xv 2 := rfl
theorem pay6 : k0_pay6 xv (p 0) (r 0) (p 1) (r 1) = p 2 := rfl
theorem pay7 : k0_pay7 xv (p 0) (r 0) (p 1) (r 1) (p 2) (r 2) = bases tab xv 3 := rfl
theorem pay8 : k0_pay8 xv (p 0) (r 0) (p 1) (r 1) (p 2) (r 2) = p 3 := rfl
theorem pay9 : k0_pay9 xv (p 0) (r 0) (p 1) (r 1) (p 2) (r 2) (p 3) (r 3) = bases tab xv 4 := rfl
theorem pay10 : k0_pay10 xv (p 0) (r 0) (p 1) (r 1) (p 2) (r 2) (p 3) (r 3) = p 4 := rfl

/-- What the first part of a trip hands the second: the position after four rounds, and the fifth round's comparison and
    next position. -/
abbrev found (k : Nat) : IVec S16 1 := cmpf .ole (look tab (probes tab xv k)) xv
abbrev past (k : Nat) : IVec S16 32 := addi (probes tab xv k) (broadcast S16 1#32)

theorem pay14 : k0_pay14 (bases tab xv 4) (found tab xv 4) (past tab xv 4) = p 5 := rfl
theorem pay16 : k0_pay16 xv (bases tab xv 4) (found tab xv 4) (past tab xv 4) (p 5) (r 5) = p 6 := rfl
theorem pay18 : k0_pay18 xv (bases tab xv 4) (found tab xv 4) (past tab xv 4) (p 5) (r 5) (p 6) (r 6) = p 7 := rfl
theorem pay20 : k0_pay20 xv (bases tab xv 4) (found tab xv 4) (past tab xv 4) (p 5) (r 5) (p 6) (r 6) (p 7) (r 7) = p 8 := rfl
theorem pay22 : k0_pay22 xv (bases tab xv 4) (found tab xv 4) (past tab xv 4) (p 5) (r 5) (p 6) (r 6) (p 7) (r 7) (p 8) (r 8) = p 9 := rfl
theorem pay23 : k0_pay23 xv (bases tab xv 4) (found tab xv 4) (past tab xv 4) (p 5) (r 5) (p 6) (r 6) (p 7) (r 7) (p 8) (r 8) (p 9) (r 9)
    = bases tab xv 10 := rfl
theorem pay24 : k0_pay24 xv (bases tab xv 4) (found tab xv 4) (past tab xv 4) (p 5) (r 5) (p 6) (r 6) (p 7) (r 7) (p 8) (r 8) (p 9) (r 9)
    = p 10 := rfl

theorem pay28 : k0_pay28 (bases tab xv 10) (found tab xv 10) (past tab xv 10) = p 11 := rfl
theorem pay30 : k0_pay30 xv (bases tab xv 10) (found tab xv 10) (past tab xv 10) (p 11) (r 11) = p 12 := rfl
theorem pay32 : k0_pay32 xv (bases tab xv 10) (found tab xv 10) (past tab xv 10) (p 11) (r 11) (p 12) (r 12) = p 13 := rfl
theorem pay33 : k0_pay33 xv (bases tab xv 10) (found tab xv 10) (past tab xv 10) (p 11) (r 11) (p 12) (r 12) (p 13) (r 13)
    = uppers tab xv := rfl
theorem pay34 : k0_pay34 (uppers tab xv) = lowers tab xv := rfl
theorem pay35 [Named F] : k0_pay35 (look tab (broadcast S16 0#32)) (look tab (broadcast S16 9999#32)) (Named.named κ "inv" 0x38D1BC76#32)
      (Scalar.ofBits .f32 0x00000000#32) (Scalar.ofBits .f32 0x3F800000#32) xv (uppers tab xv) (look tab (uppers tab xv)) (look tab (lowers tab xv))
    = points tab xv := rfl

end Payloads

end Cert.Proof.Search

end
-- ==== Proof.Trip.lean ====
/-
  One trip of the kernel's loop: sixteen numbers loaded, their fourteen rounds of search in the table, the two entries
  around each, and the sixteen results stored.

  The tile's three buffers are the table's copy (`sT`), the numbers (`sX`) and the results (`sO`). A trip reads the
  first two and writes sixteen entries of the third; what it writes is `points` of the table and of the numbers loaded
  (`wp_trip`). Every gather's positions pass the kernel's check of them (Search.lean), whatever the table holds.
-/
module

public import proofs.«01_k».proof.Proof.Search
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.Trip

open Cert.KernelIdeal Cert.KernelIdeal.Gen
open Cert.Proof.Search

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The resource algebra: the handshakes' rounds library beside the transfers' counters -/

abbrev 𝒱₀ : Variants := Variants.none
abbrev UH : Type := URounds (GSem nD τ sig) ℕ
abbrev UU : Type := UH × Counters

local notation "𝕄" => MT nD τ sig (HIx 1) (Elt F) ℕ UU ℕ

/-! ## The buffers -/

/-- The arrays as a tile addresses them: the numbers, the table, the results. -/
abbrev xV : Memref sig .scVector .hbm S16384 .f32 := Memref.whole main_v0_scv
abbrev tV : Memref sig .scVector .hbm S10000 .f32 := Memref.whole main_arg1_scv
abbrev oV : Memref sig .scVector .hbm S16384 .f32 := Memref.whole main_v1_scv
/-- A tile's own buffers: the table's copy, its numbers, its results. -/
abbrev sT : Memref sig .scVector .vmem S10000 .f32 := Memref.whole cc0_scratch0
abbrev sX : Memref sig .scVector .vmem S512 .f32 := Memref.whole cc0_scratch1
abbrev sO : Memref sig .scVector .vmem S512 .f32 := Memref.whole cc0_scratch2

variable (d : Dev nD) (L : grid0.Coords)

/-- The SparseCore and the tile at a grid point, and the thread there. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- A tile's own buffers at given contents. -/
abbrev tPts (tf : Buf (Elt F) ((thr d L).loc cc0_scratch0)) : sProp 𝕄 := (thr d L).loc cc0_scratch0 ↦{fullShare} tf
abbrev xPts (xf : Buf (Elt F) ((thr d L).loc cc0_scratch1)) : sProp 𝕄 := (thr d L).loc cc0_scratch1 ↦{fullShare} xf
abbrev oPts (of : Buf (Elt F) ((thr d L).loc cc0_scratch2)) : sProp 𝕄 := (thr d L).loc cc0_scratch2 ↦{fullShare} of

variable [FloatOps F] [Named F]

/-- The sixteen entries trip `t` loads. -/
abbrev rL (t : Fin k0_t1_loop.trips) : Rect S512 := Rect.unit (s := S512) (k0_off2 t) S16.size (k0_off2_inb t)
/-- The sixteen entries trip `t` stores. -/
abbrev rS (t : Fin k0_t1_loop.trips) : Rect S512 := Rect.unit (s := S512) (k0_off3 t) S16.size (k0_off3_inb t)

/-- The numbers trip `t` loads. -/
abbrev lanes (xf : Buf (Elt F) ((thr d L).loc cc0_scratch1)) (t : Fin k0_t1_loop.trips) : Vec F S16 .f32 :=
  (sX).view.readAt (Elt F) (rL t).toLoadRect xf

/-! ## One gather, its positions checked before it -/

section Steps

variable {d L} {α : Type}

theorem wp_gather {v : IVec S16 32}
    {h : ∀ a x, ((![v] : Fin 1 → IVec S16 32) a x).toNat < S10000.size a} {hl : (sT).view.Loads}
    {k : Vec F S16 .f32 → Prog (TpuEff nD τ sig (Elt F) Λ₀ (thr d L).2) α} {tf : Buf (Elt F) ((thr d L).loc cc0_scratch0)} {Φ : α → sProp 𝕄} :
    tPts d L tf ⊢ iprop((tPts d L tf -∗ wp frame (wpE (defs₀ (F := F)) 𝒱₀ (thr d L) none) Set.univ (k (look tf v)) Φ)
      -∗ wp frame (wpE (defs₀ (F := F)) 𝒱₀ (thr d L) none) Set.univ (SparseCore.vectorLoadIdx sT ![v] h hl >>= k) Φ) := by
  have e := SparseCore.wp_vectorLoadIdx (defs := defs₀ (F := F)) 𝒱₀ (thr d L) none Set.univ (Q := Φ) (base := sT) (S := Finset.univ)
    (idxs := ![v]) (h := h) (hl := hl) (q := fullShare) (f := tf) (k := k) (Finset.subset_univ _)
  have hr : View.read (Elt F) ((sT).access (Rect.whole S10000)) tf = tf := Memref.read_access_whole (Elt F) cc0_scratch0 tf
  rw [hr, loadIdx_look] at e
  exact e

theorem wp_probe {P : Prop} {dec : Decidable P} (hP : P) {v : IVec S16 32}
    {h : PLift P → ∀ a x, ((![v] : Fin 1 → IVec S16 32) a x).toNat < S10000.size a} {hl : (sT).view.Loads}
    {k : Vec F S16 .f32 → Prog (TpuEff nD τ sig (Elt F) Λ₀ (thr d L).2) α} {tf : Buf (Elt F) ((thr d L).loc cc0_scratch0)} {Φ : α → sProp 𝕄} :
    tPts d L tf ⊢ iprop((tPts d L tf -∗ wp frame (wpE (defs₀ (F := F)) 𝒱₀ (thr d L) none) Set.univ (k (look tf v)) Φ)
      -∗ wp frame (wpE (defs₀ (F := F)) 𝒱₀ (thr d L) none) Set.univ
          (Prog.lift (TpuEff.assume P dec) >>= fun p => SparseCore.vectorLoadIdx sT ![v] (h p) hl >>= k) Φ) := by
  have e : (Prog.lift (TpuEff.assume P dec) >>= fun p => SparseCore.vectorLoadIdx sT ![v] (h p) hl >>= k)
      = (.op (.assume P dec) fun p => SparseCore.vectorLoadIdx sT ![v] (h p) hl >>= k : Prog (TpuEff nD τ sig (Elt F) Λ₀ (thr d L).2) α) := rfl
  rw [e, wp_assume_of _ _ _ _ hP]
  exact wp_gather

theorem wp_lanes {t : Fin k0_t1_loop.trips} {hl : (sX).view.LoadsAt (rL t).toLoadRect}
    {k : Vec F S16 .f32 → Prog (TpuEff nD τ sig (Elt F) Λ₀ (thr d L).2) α} {xf : Buf (Elt F) ((thr d L).loc cc0_scratch1)} {Φ : α → sProp 𝕄} :
    xPts d L xf ⊢ iprop((xPts d L xf -∗ wp frame (wpE (defs₀ (F := F)) 𝒱₀ (thr d L) none) Set.univ (k (lanes d L xf t)) Φ)
      -∗ wp frame (wpE (defs₀ (F := F)) 𝒱₀ (thr d L) none) Set.univ (Prog.lift (.load sX (rL t).toLoadRect hl) >>= k) Φ) :=
  wp_load 𝒱₀ (thr d L) none Set.univ (m := sX) (S := Finset.univ) (Finset.subset_univ _)

end Steps

/-! ## The three parts of a trip -/

set_option maxHeartbeats 1000000 in
theorem wp_part1 (t : Fin k0_t1_loop.trips) (tf : Buf (Elt F) ((thr d L).loc cc0_scratch0)) (xf : Buf (Elt F) ((thr d L).loc cc0_scratch1))
    (Q : (Σ' (_ : BitVec 32) (_ : Vec F S16 .f32) (_ : IVec S16 32) (_ : IVec S16 1), IVec S16 32) → sProp 𝕄) (n : BitVec 32)
    (hn : n = Scalar.addi 0#32 (Scalar.muli (Scf.iv 0#32 1#32 t) 1#32)) :
    iprop(tPts d L tf ∗ xPts d L xf) ⊢ iprop(((tPts d L tf ∗ xPts d L xf)
        -∗ Q ⟨n, lanes d L xf t, bases tf (lanes d L xf t) 4, found tf (lanes d L xf t) 4, past tf (lanes d L xf t) 4⟩)
      -∗ wp frame (wpE (defs₀ (F := F)) 𝒱₀ (thr d L) none) Set.univ
          (k0_part1 L xV (Memref.isWhole_whole _) tV (Memref.isWhole_whole _) oV (Memref.isWhole_whole _) sT (Memref.isWhole_whole _)
            sX (Memref.isWhole_whole _) sO (Memref.isWhole_whole _) cc0_scratch3 cc0_scratch4 cc0_scoped0 0#32 1#32 t) Q) := by
  subst hn
  rw [k0_part1_eq_skeleton]; unfold k0_part1_skel
  iintro ⟨Ht, Hx⟩ HQ
  iapply (wp_lanes (t := t)) $$ Hx; iintro Hx
  rw [pay2 tf (lanes d L xf t)]
  iapply (wp_probe (probes_inb tf (lanes d L xf t) (k := 0) (by decide))) $$ Ht; iintro Ht
  rw [pay4 tf (lanes d L xf t)]
  iapply (wp_probe (probes_inb tf (lanes d L xf t) (k := 1) (by decide))) $$ Ht; iintro Ht
  rw [pay6 tf (lanes d L xf t)]
  iapply (wp_probe (probes_inb tf (lanes d L xf t) (k := 2) (by decide))) $$ Ht; iintro Ht
  rw [pay8 tf (lanes d L xf t)]
  iapply (wp_probe (probes_inb tf (lanes d L xf t) (k := 3) (by decide))) $$ Ht; iintro Ht
  rw [pay9 tf (lanes d L xf t), pay10 tf (lanes d L xf t)]
  iapply (wp_probe (probes_inb tf (lanes d L xf t) (k := 4) (by decide))) $$ Ht; iintro Ht
  rw [show k0_pay11 (lanes d L xf t) (look tf (probes tf (lanes d L xf t) 4)) = found tf (lanes d L xf t) 4 from rfl,
    show k0_pay12 (probes tf (lanes d L xf t) 4) = past tf (lanes d L xf t) 4 from rfl]
  rw [Prog.pure_eq_ret, wp_ret]; imodintro
  iapply HQ
  isplitl [Ht]; · iexact Ht
  iexact Hx

set_option maxHeartbeats 1000000 in
theorem wp_part2 (tf : Buf (Elt F) ((thr d L).loc cc0_scratch0)) (xv : Vec F S16 .f32)
    (Q : (Σ' (_ : IVec S16 32) (_ : IVec S16 1), IVec S16 32) → sProp 𝕄) :
    tPts d L tf ⊢ iprop((tPts d L tf -∗ Q ⟨bases tf xv 10, found tf xv 10, past tf xv 10⟩)
      -∗ wp frame (wpE (defs₀ (F := F)) 𝒱₀ (thr d L) none) Set.univ
          (k0_part2 L xV (Memref.isWhole_whole _) tV (Memref.isWhole_whole _) oV (Memref.isWhole_whole _) sT (Memref.isWhole_whole _)
            sX (Memref.isWhole_whole _) sO (Memref.isWhole_whole _) cc0_scratch3 cc0_scratch4 cc0_scoped0
            xv (bases tf xv 4) (found tf xv 4) (past tf xv 4)) Q) := by
  rw [k0_part2_eq_skeleton]; unfold k0_part2_skel
  iintro Ht HQ
  rw [pay14 tf xv]
  iapply (wp_probe (probes_inb tf xv (k := 5) (by decide))) $$ Ht; iintro Ht
  rw [pay16 tf xv]
  iapply (wp_probe (probes_inb tf xv (k := 6) (by decide))) $$ Ht; iintro Ht
  rw [pay18 tf xv]
  iapply (wp_probe (probes_inb tf xv (k := 7) (by decide))) $$ Ht; iintro Ht
  rw [pay20 tf xv]
  iapply (wp_probe (probes_inb tf xv (k := 8) (by decide))) $$ Ht; iintro Ht
  rw [pay22 tf xv]
  iapply (wp_probe (probes_inb tf xv (k := 9) (by decide))) $$ Ht; iintro Ht
  rw [pay23 tf xv, pay24 tf xv]
  iapply (wp_probe (probes_inb tf xv (k := 10) (by decide))) $$ Ht; iintro Ht
  rw [show k0_pay25 xv (look tf (probes tf xv 10)) = found tf xv 10 from rfl,
    show k0_pay26 (probes tf xv 10) = past tf xv 10 from rfl]
  rw [Prog.pure_eq_ret, wp_ret]; imodintro
  iapply HQ
  iexact Ht

set_option maxHeartbeats 1000000 in
theorem wp_part3 (tf : Buf (Elt F) ((thr d L).loc cc0_scratch0)) (xv : Vec F S16 .f32) (n : BitVec 32) (Q : FVec F S16 .f32 → sProp 𝕄) :
    tPts d L tf ⊢ iprop((tPts d L tf -∗ Q (points tf xv))
      -∗ wp frame (wpE (defs₀ (F := F)) 𝒱₀ (thr d L) none) Set.univ
          (k0_part3 L xV (Memref.isWhole_whole _) tV (Memref.isWhole_whole _) oV (Memref.isWhole_whole _) sT (Memref.isWhole_whole _)
            sX (Memref.isWhole_whole _) sO (Memref.isWhole_whole _) cc0_scratch3 cc0_scratch4 cc0_scoped0
            (look tf (broadcast S16 0#32)) (look tf (broadcast S16 9999#32)) (Named.named κ "inv" 0x38D1BC76#32)
            (Scalar.ofBits .f32 0x00000000#32) (Scalar.ofBits .f32 0x3F800000#32) n
            xv (bases tf xv 10) (found tf xv 10) (past tf xv 10)) Q) := by
  rw [k0_part3_eq_skeleton]; unfold k0_part3_skel
  iintro Ht HQ
  rw [pay28 tf xv]
  iapply (wp_probe (probes_inb tf xv (k := 11) (by decide))) $$ Ht; iintro Ht
  rw [pay30 tf xv]
  iapply (wp_probe (probes_inb tf xv (k := 12) (by decide))) $$ Ht; iintro Ht
  rw [pay32 tf xv]
  iapply (wp_probe (probes_inb tf xv (k := 13) (by decide))) $$ Ht; iintro Ht
  rw [pay33 tf xv]
  iapply (wp_probe (uppers_inb tf xv)) $$ Ht; iintro Ht
  rw [pay34 tf xv]
  iapply (wp_probe (lowers_inb tf xv)) $$ Ht; iintro Ht
  rw [pay35 tf xv, Prog.pure_eq_ret, wp_ret]; imodintro
  iapply HQ
  iexact Ht

/-! ## The trip -/

/-- The results' buffer after trip `t`: sixteen more of its entries written. -/
abbrev wrote (t : Fin k0_t1_loop.trips) (tf : Buf (Elt F) ((thr d L).loc cc0_scratch0)) (xf : Buf (Elt F) ((thr d L).loc cc0_scratch1))
    (of : Buf (Elt F) ((thr d L).loc cc0_scratch2)) : Buf (Elt F) ((thr d L).loc cc0_scratch2) :=
  ((sO).access (rS t)).write (Elt F) of (points tf (lanes d L xf t)) Finset.univ

/-- One trip: the table and the numbers kept, the results' buffer with sixteen more results. -/
theorem wp_trip (t : Fin k0_t1_loop.trips) (tf : Buf (Elt F) ((thr d L).loc cc0_scratch0)) (xf : Buf (Elt F) ((thr d L).loc cc0_scratch1))
    (of : Buf (Elt F) ((thr d L).loc cc0_scratch2)) (Q : Unit → sProp 𝕄) :
    iprop(tPts d L tf ∗ xPts d L xf ∗ oPts d L of) ⊢ iprop(((tPts d L tf ∗ xPts d L xf ∗ oPts d L (wrote d L t tf xf of)) -∗ Q ⟨⟩)
      -∗ wp frame (wpE (defs₀ (F := F)) 𝒱₀ (thr d L) none) Set.univ
          (k0_t1_body L xV (Memref.isWhole_whole _) tV (Memref.isWhole_whole _) oV (Memref.isWhole_whole _) sT (Memref.isWhole_whole _)
            sX (Memref.isWhole_whole _) sO (Memref.isWhole_whole _) cc0_scratch3 cc0_scratch4 cc0_scoped0
            (look tf (broadcast S16 0#32)) (look tf (broadcast S16 9999#32)) (Named.named κ "inv" 0x38D1BC76#32)
            (Scalar.ofBits .f32 0x00000000#32) (Scalar.ofBits .f32 0x3F800000#32) t ⟨⟩) Q) := by
  unfold k0_t1_body
  iintro ⟨Ht, Hx, Ho⟩ HQ
  rw [wp_bind]
  iapply (wp_part1 d L t tf xf _ _ rfl) $$ [Ht Hx]; · isplitl [Ht] <;> iassumption
  iintro ⟨Ht, Hx⟩
  dsimp only
  rw [wp_bind]
  iapply (wp_part2 d L tf (lanes d L xf t)) $$ Ht; iintro Ht
  dsimp only
  rw [wp_bind]
  iapply (wp_part3 d L tf (lanes d L xf t)) $$ Ht; iintro Ht
  simp only [Prog.lift, Prog.bind_op, Prog.bind_ret, Prog.pure_eq_ret]
  iapply (wp_load 𝒱₀ (thr d L) none Set.univ (m := sO) (S := Finset.univ) (Finset.subset_univ _)) $$ Ho; iintro Ho
  iapply (wp_store 𝒱₀ (thr d L) none Set.univ (m := sO) (r := rS t) (Mk := Finset.univ) (S := Finset.univ) (Finset.subset_univ _)) $$ Ho; iintro Ho
  rw [wp_ret]; imodintro
  iapply HQ
  isplitl [Ht]; · iexact Ht
  isplitl [Hx]; · iexact Hx
  iexact Ho

end Cert.Proof.Trip

end
-- ==== Proof.Tile.lean ====
/-
  One tile's task: the table and the tile's 512 numbers copied in, the loop's 32 trips, the 512 results copied out.

  The tile on SparseCore `c`, subcore `s` takes block `2 * s + c` of the 32 blocks of 512 numbers. It holds a share of
  the table (every tile reads all of it at once), its block of the numbers, and its block of the results whole; it hands
  back the same, the results' block at `res`: the kernel's result for each of its numbers (`tile_body`).
-/
module

public import proofs.«01_k».proof.Proof.Trip
public import Idealize.ShloMosaic.Lib.WritesUnit

@[expose] public section

noncomputable section

namespace Cert.Proof.Tile

open Cert.KernelIdeal Cert.KernelIdeal.Gen
open Cert.Proof.Search Cert.Proof.Trip

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The program as the launch theorem sees it -/

abbrev ΛP : Labels := Pipeline.Sig Λ₀ (Fin 0) fun p => (pcfgs (F := F) p).Adm
abbrev K : SparseCore.Cfg τ sig (ΛP (F := F)) 1 := sc (F := F)

/-! ## The arrays and their blocks -/

abbrev vLoc (d : Dev nD) : Loc nD τ sig := (SparseCore.T d).loc main_v0
abbrev tLoc (d : Dev nD) : Loc nD τ sig := (SparseCore.T d).loc main_arg1
abbrev oLoc (d : Dev nD) : Loc nD τ sig := (SparseCore.T d).loc main_v1

theorem div32 : 32 ∣ S16384.size 0 := ⟨512, rfl⟩
/-- Block `k` of the 32 blocks of 512. -/
abbrev blk (k : Fin 32) : Rect S16384 := Rect.part (s := S16384) (a₀ := 0) div32 k
abbrev blkSet (k : Fin 32) : Finset S16384.Idx := (blk k).set

/-- The kernel's result for every number. -/
def res [FloatOps F] [Named F] (tab : Vec F S10000 .f32) (xs : Vec F S16384 .f32) : Vec F S16384 .f32 := fun i => point tab (xs i)

/-- What a task takes of the three arrays, the results' block at `f`: a share `q` of the table, its blocks whole. -/
def task (d : Dev nD) (q : PosShare TreeShare) (k : Fin 32) (tab : Buf (Elt F) (tLoc d)) (xs : Buf (Elt F) (vLoc d)) (f : Buf (Elt F) (oLoc d)) : sProp 𝕄 :=
  iprop((tLoc d ↦{q} tab) ∗ (vLoc d ↦[blkSet k]{fullShare} xs) ∗ (oLoc d ↦[blkSet k]{fullShare} f))

section Body

variable (d : Dev nD) (L : grid0.Coords)

/-- The block of the tile at a grid point. -/
abbrev kL (L : grid0.Coords) : Fin 32 := ⟨2 * (L 1).val + (L 0).val, by
  have h0 : (L 0).val < 2 := (L 0).isLt
  have h1 : (L 1).val < 16 := (L 1).isLt
  omega⟩

abbrev xrowK (L : grid0.Coords) : Rect S16384 := Rect.unit (s := S16384) (k0_off1 L) S512.size (k0_off1_inb L)
abbrev orowK (L : grid0.Coords) : Rect S16384 := Rect.unit (s := S16384) (k0_off4 L) S512.size (k0_off4_inb L)
/-- The tile's blocks as its copies address them. -/
abbrev xRowK (L : grid0.Coords) : Memref sig .scVector .hbm S512 .f32 := (xV).slice (xrowK L) (fun _ => rfl)
abbrev oRowK (L : grid0.Coords) : Memref sig .scVector .hbm S512 .f32 := (oV).slice (orowK L) (fun _ => rfl)

theorem xrowK_eq : xrowK L = blk (kL L) := by
  unfold xrowK blk Rect.part Rect.block
  congr 1 <;> funext a
  · rw [k0_off1_eq]
    match a with
    | 0 => simp [Shape.partIx, Shape.partSize]; omega
  · match a with
    | 0 => simp [Shape.partSize]
theorem orowK_eq : orowK L = blk (kL L) := by
  unfold orowK blk Rect.part Rect.block
  congr 1 <;> funext a
  · rw [k0_off4_eq]
    match a with
    | 0 => simp [Shape.partIx, Shape.partSize]; omega
  · match a with
    | 0 => simp [Shape.partSize]

theorem set_xRowK : (xRowK L).view.set = blkSet (kL L) := by
  show ((View.whole (main_v0_scv : Ref sig .scVector)).slice (xrowK L)).set = _
  rw [View.set_slice, xrowK_eq]; exact Finset.map_refl
theorem set_oRowK : (oRowK L).view.set = blkSet (kL L) := by
  show ((View.whole (main_v1_scv : Ref sig .scVector)).slice (orowK L)).set = _
  rw [View.set_slice, orowK_eq]; exact Finset.map_refl

theorem pts_xRowK (f : Buf (Elt F) (vLoc d)) :
    ((xRowK L).view.loc (thr d L) ↦[(xRowK L).view.set]{fullShare} f : sProp 𝕄) = vLoc d ↦[blkSet (kL L)]{fullShare} f := by
  rw [set_xRowK]
theorem pts_oRowK (f : Buf (Elt F) (oLoc d)) :
    ((oRowK L).view.loc (thr d L) ↦[(oRowK L).view.set]{fullShare} f : sProp 𝕄) = oLoc d ↦[blkSet (kL L)]{fullShare} f := by
  rw [set_oRowK]
theorem pts_tV (q : PosShare TreeShare) (f : Buf (Elt F) (tLoc d)) :
    ((tV).view.loc (thr d L) ↦{q} f : sProp 𝕄) = tLoc d ↦{q} f := rfl

theorem pts_sT (f : Buf (Elt F) ((thr d L).loc cc0_scratch0)) : ((sT).view.loc (thr d L) ↦{fullShare} f : sProp 𝕄) = tPts d L f := rfl
theorem pts_sX (f : Buf (Elt F) ((thr d L).loc cc0_scratch1)) : ((sX).view.loc (thr d L) ↦{fullShare} f : sProp 𝕄) = xPts d L f := rfl
theorem pts_sO (f : Buf (Elt F) ((thr d L).loc cc0_scratch2)) : ((sO).view.loc (thr d L) ↦{fullShare} f : sProp 𝕄) = oPts d L f := rfl

/-- A copy fills its buffer: it holds what was copied. -/
theorem pts_sT_filled (f : Buf (Elt F) ((thr d L).loc cc0_scratch0)) {pay w : S10000.Idx → Elt F .f32} (h : pay = w) :
    ((sT).view.loc (thr d L) ↦{fullShare} View.write (Elt F) (sT).view f pay Finset.univ : sProp 𝕄) = tPts d L w := by
  subst h; rw [pts_sT, View.write_whole_univ]
theorem pts_sX_filled (f : Buf (Elt F) ((thr d L).loc cc0_scratch1)) {pay w : S512.Idx → Elt F .f32} (h : pay = w) :
    ((sX).view.loc (thr d L) ↦{fullShare} View.write (Elt F) (sX).view f pay Finset.univ : sProp 𝕄) = xPts d L w := by
  subst h; rw [pts_sX, View.write_whole_univ]

/-- The tile's numbers, as its copy of them holds them. -/
abbrev mine (xs : Buf (Elt F) (vLoc d)) : Buf (Elt F) ((thr d L).loc cc0_scratch1) := (xRowK L).view.read (Elt F) xs

/-! ## The tile's own semaphores and buffers -/

abbrev cTcell (d : Dev nD) (c : Fin τ.nSC) (i : Fin τ.nSub) : GSem nD τ sig := (V d c i, .dma cc0_scratch3.sem)
abbrev cXcell (d : Dev nD) (c : Fin τ.nSC) (i : Fin τ.nSub) : GSem nD τ sig := (V d c i, .dma cc0_scratch4.sem)
abbrev cOcell (d : Dev nD) (c : Fin τ.nSC) (i : Fin τ.nSub) : GSem nD τ sig := (V d c i, .dma cc0_scoped0.sem)

theorem ownSems0_V :
    (ownSems0 (thr d L) : sProp 𝕄)
      = iprop(semVal (cTcell d (cV L) (jV L)) 0 ∗ semVal (cXcell d (cV L) (jV L)) 0 ∗ semVal (cOcell d (cV L) (jV L)) 0
          ∗ bigSep ((((ownCells (thr d L)).erase (cTcell d (cV L) (jV L))).erase (cXcell d (cV L) (jV L))).erase (cOcell d (cV L) (jV L)))
              fun g => semVal g 0) := by
  unfold SparseCore.Cfg.ownSems0
  rw [SparseCore.bigSep_erase' ((mem_ownCells (g := cTcell d (cV L) (jV L))).mpr ⟨rfl, by
      show (SemLoc.dma cc0_scratch3.sem : SemLoc sig).isScoped .scVector = true; decide⟩),
    SparseCore.bigSep_erase' (Finset.mem_erase.mpr ⟨by simp [cTcell, cXcell]; decide, (mem_ownCells (g := cXcell d (cV L) (jV L))).mpr ⟨rfl, by
      show (SemLoc.dma cc0_scratch4.sem : SemLoc sig).isScoped .scVector = true; decide⟩⟩),
    SparseCore.bigSep_erase' (Finset.mem_erase.mpr ⟨by simp [cXcell, cOcell]; decide, Finset.mem_erase.mpr ⟨by simp [cTcell, cOcell]; decide,
      (mem_ownCells (g := cOcell d (cV L) (jV L))).mpr ⟨rfl, by show (SemLoc.dma cc0_scoped0.sem : SemLoc sig).isScoped .scVector = true; decide⟩⟩⟩)]

theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

variable [FloatOps F] [Named F]

/-! ## The loop -/

/-- Before trip `n` the first `16 * n` results are in place. -/
def upTo (tf : Buf (Elt F) ((thr d L).loc cc0_scratch0)) (xf : Buf (Elt F) ((thr d L).loc cc0_scratch1)) (n : ℕ)
    (of : Buf (Elt F) ((thr d L).loc cc0_scratch2)) : Prop :=
  ∀ j : S512.Idx, (j 0).val < 16 * n → of j = point (F := F) tf (xf j)

/-- The loop's invariant: the table and the numbers kept, the results so far. -/
def inv (tf : Buf (Elt F) ((thr d L).loc cc0_scratch0)) (xf : Buf (Elt F) ((thr d L).loc cc0_scratch1)) (n : ℕ) (_ : PUnit) : sProp 𝕄 :=
  iprop(tPts d L tf ∗ xPts d L xf ∗ ∃ of, ⌜upTo d L tf xf n of⌝ ∗ oPts d L of)

theorem upTo_succ (tf : Buf (Elt F) ((thr d L).loc cc0_scratch0)) (xf : Buf (Elt F) ((thr d L).loc cc0_scratch1)) (t : Fin k0_t1_loop.trips)
    (of : Buf (Elt F) ((thr d L).loc cc0_scratch2)) (h : upTo d L tf xf t.val of) : upTo d L tf xf (t.val + 1) (wrote d L t tf xf of) := by
  intro j hj
  have e : wrote d L t tf xf of
      = (sO).view.writes (Elt F) of [⟨Rect.unit (s := S512) (k0_off3 t) S16.size (k0_off3_inb t), points tf (lanes d L xf t)⟩] := rfl
  have r : ∀ g : Buf (Elt F) ((thr d L).loc cc0_scratch2), g j = (sO).view.read (Elt F) g j := fun g => (congrFun (View.read_whole cc0_scratch2 g) j).symm
  rw [e]
  by_cases h1 : 16 * t.val ≤ (j 0).val
  · let x : S16.Idx := fun a => ⟨(j 0).val - 16 * t.val, by
      obtain rfl : a = 0 := Subsingleton.elim _ _
      show _ < 16
      omega⟩
    have hx : (rL t).toLoadRect.idx x = j := funext fun a => Fin.ext (by
      obtain rfl : a = 0 := Subsingleton.elim _ _
      show k0_off2 t 0 + 1 * ((j 0).val - 16 * t.val) = (j 0).val
      rw [k0_off2_eq]
      show 16 * t.val + _ = _
      omega)
    refine (r _).trans ((View.read_writes_cons_unit_of_mem (sO).view of (k0_off3_inb t) (points tf (lanes d L xf t)) [] j x (k0_off3_eq t) ?_).trans ?_)
    · intro a
      obtain rfl : a = 0 := Subsingleton.elim _ _
      show (j 0).val = 16 * t.val + ((j 0).val - 16 * t.val)
      omega
    · show point tf (lanes d L xf t x) = _
      rw [show lanes d L xf t x = (sX).view.read (Elt F) xf ((rL t).toLoadRect.idx x) from rfl, hx, View.read_whole]
  · refine (r _).trans ((View.read_writes_cons_unit_of_not_mem (sO).view of (k0_off3_inb t) (points tf (lanes d L xf t)) [] j (k0_off3_eq t) 0 (.inl ?_)).trans ?_)
    · show (j 0).val < 16 * t.val
      omega
    · rw [View.writes_nil, ← r]
      exact h j (by omega)

/-- What the copy of a tile's results leaves in the array, on the tile's block. -/
theorem out_eq (tab : Buf (Elt F) (tLoc d)) (xs : Buf (Elt F) (vLoc d)) (fo : Buf (Elt F) (oLoc d)) (of : Buf (Elt F) ((thr d L).loc cc0_scratch2))
    (hof : upTo d L tab (mine d L xs) 32 of) {pay : S512.Idx → Elt F .f32} (hp : pay = of) :
    ((oRowK L).view.loc (thr d L) ↦[(oRowK L).view.set]{fullShare} (oRowK L).view.writes (Elt F) fo [⟨Rect.whole S512, pay⟩] : sProp 𝕄)
      = oLoc d ↦[blkSet (kL L)]{fullShare} res (F := F) tab xs := by
  subst hp
  rw [← pts_oRowK]
  refine pointsTo_congr fun i hi => ?_
  obtain ⟨y, -, rfl⟩ := Finset.mem_map.mp hi
  have e := View.read_writes_cons_emb (oRowK L).view fo (Rect.whole S512) pay [] y
  have hy : (Rect.whole S512).emb y = y := funext fun a => Fin.ext (by simp)
  rw [hy, View.read_apply] at e
  refine (cast_eq rfl _).symm.trans (e.trans ?_)
  refine (hof y (by have := (y 0).isLt; have : S512.size 0 = 512 := rfl; omega)).trans ?_
  show point tab (mine d L xs y) = point tab (xs ((oRowK L).view.emb y))
  rw [show mine d L xs y = xs ((xRowK L).view.emb y) from (View.read_apply _ _).trans (cast_eq _ _),
    show (xRowK L).view.emb y = (oRowK L).view.emb y from funext fun a => Fin.ext (by
      show k0_off1 L a + 1 * (y a).val = k0_off4 L a + 1 * (y a).val
      rw [k0_off1_eq, k0_off4_eq])]

set_option maxHeartbeats 4000000 in
/-- The task at grid point `L` of device `d`: the two fetches, the gathers of the table's ends, the loop, the copy out. -/
theorem tile_body (hF : (K (F := F)).Facts) (q : PosShare TreeShare) (tab : Buf (Elt F) (tLoc d)) (xs : Buf (Elt F) (vLoc d)) (fo : Buf (Elt F) (oLoc d))
    (O : CellTallies nD τ sig (HIx 1)) (W : Waits sig (HIx 1)) (hO : ∀ g, O g none = 0) :
    iprop(levAts (K (F := F)).L (K (F := F)).lev ∗ emp ∗ task d q (kL L) tab xs fo
        ∗ scopedBufs (thr d L) ∗ scopedSems0 (thr d L) ∗ owes (thr d L) O W)
      ⊢ wp frame (wpE (defs₀ (F := F)) 𝒱₀ (thr d L) none) Set.univ
          (cc0__calib_body L xV (Memref.isWhole_whole _) tV (Memref.isWhole_whole _) oV (Memref.isWhole_whole _) sT (Memref.isWhole_whole _)
            sX (Memref.isWhole_whole _) sO (Memref.isWhole_whole _) cc0_scratch3 cc0_scratch4 cc0_scoped0)
          fun _ => iprop(task d q (kL L) tab xs (res (F := F) tab xs)
            ∗ scopedBufs (thr d L) ∗ scopedSems0 (thr d L)
            ∗ ∃ W', ⌜∀ p ∈ W', p ∈ W ∨ p.2 = none⌝ ∗ owes (thr d L) O W') := by
  simp only [cc0__calib_body_eq_skeleton]; unfold cc0__calib_body_skel
  rw [(K (F := F)).scopedBufs_V hF d (cV L) (jV L), SparseCore.Cfg.scopedSems0_V (Val := Elt F) d (cV L) (jV L), ownSems0_V, ownBufs_V]
  unfold task
  iintro ⟨#Hlv, -, ⟨Ht, Hx, Ho⟩, ⟨⟨%f0, Hs0⟩, ⟨%f1, Hs1⟩, ⟨%f2, Hs2⟩, Hbufs⟩, ⟨HsemT, HsemX, HsemO, Hsems⟩, HO⟩
  ihave Hmw := (show levAts (K (F := F)).L (K (F := F)).lev ⊢ Transfers.MayWaits (thr d L) (default : HIx 1) O from
    (K (F := F)).mayWaits_none (thr := thr d L) hO) $$ Hlv
  ihave Hx' := (Entails.of_eq (pts_xRowK (F := F) d L _).symm) $$ Hx
  ihave Ho' := (Entails.of_eq (pts_oRowK (F := F) d L _).symm) $$ Ho
  ihave Ht' := (Entails.of_eq (pts_tV (F := F) d L _ _).symm) $$ Ht
  ihave Hs0' := (Entails.of_eq (pts_sT (F := F) d L _).symm) $$ Hs0
  ihave Hs1' := (Entails.of_eq (pts_sX (F := F) d L _).symm) $$ Hs1
  have hw1 : k0_chk1 (broadcast S16 0#32) := inb_of_lt fun _ => by show BitVec.toNat _ < _; decide +revert
  have hw2 : k0_chk2 (broadcast S16 9999#32) := inb_of_lt fun _ => by show BitVec.toNat _ < _; decide +revert
  sl_exec
  ihave Ht0 := (Entails.of_eq (pts_sT_filled (F := F) d L f0 (pay := tile_body.sl.dma0 d tab) (w := tab) (View.read_whole main_arg1_scv tab))) $$ Hs0'
  ihave Hx0 := (Entails.of_eq (pts_sX_filled (F := F) d L f1 (pay := tile_body.sl.dma0_1 d L xs) (w := mine d L xs) rfl)) $$ Hs1'
  iapply (wp_gather (v := broadcast S16 0#32)) $$ Ht0; iintro Ht0
  iapply (wp_gather (v := broadcast S16 9999#32)) $$ Ht0; iintro Ht0
  sl_exec
  sl_for (inv d L tab (mine d L xs)) $$ [Ht0 Hx0 Hs2]
  case region =>
    intro k _
    unfold inv
    iintro ⟨Ht, Hx, %of, %hof, Ho⟩
    iapply (wp_trip d L k tab (mine d L xs) of) $$ [Ht Hx Ho]
    · isplitl [Ht]; · iexact Ht
      isplitl [Hx]; · iexact Hx
      iexact Ho
    iintro ⟨Ht, Hx, Ho⟩
    isplitl [Ht]; · iexact Ht
    isplitl [Hx]; · iexact Hx
    iexists _
    isplitr
    · ipureintro; exact upTo_succ d L tab (mine d L xs) k of hof
    · iexact Ho
  · unfold inv
    isplitl [Ht0]; · iexact Ht0
    isplitl [Hx0]; · iexact Hx0
    iexists f2
    isplitr
    · ipureintro; intro j hj; exact absurd hj (by omega)
    · iexact Hs2
  iintro %_ HI
  unfold inv
  icases HI with ⟨Ht0, Hx0, %of, %hof, Hs2⟩
  ihave Hs2' := (Entails.of_eq (pts_sO (F := F) d L _).symm) $$ Hs2
  sl_exec
  sl_step
  isplitl [Ht' Hx' Ho']
  · isplitl [Ht']; · iexact Ht'
    isplitl [Hx']; · iapply (Entails.of_eq (pts_xRowK (F := F) d L _)); iexact Hx'
    iapply (Entails.of_eq (out_eq (F := F) d L tab xs fo of hof (pay := tile_body.sl.dma0_2 d L of) (View.read_whole cc0_scratch2 of))); iexact Ho'
  isplitl [Ht0 Hx0 Hs2' Hbufs]
  · isplitl [Ht0]; · iexists _; iexact Ht0
    isplitl [Hx0]; · iexists _; iexact Hx0
    isplitl [Hs2']; · iexists _; iexact Hs2'
    iexact Hbufs
  isplitl [HsemT HsemX HsemO Hsems]
  · isplitl [HsemT]; · iexact HsemT
    isplitl [HsemX]; · iexact HsemX
    isplitl [HsemO]; · iexact HsemO
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Body

end Cert.Proof.Tile

end
-- ==== Proof.Launch.lean ====
/-
  The kernel's program: the numbers flattened, the SparseCore call over the 2 SparseCores' 32 tiles, the results given
  their last axis back.

  The call splits what @main hands it among the 32 tiles: a share of the table each, block `k` of the numbers and of
  the results whole (`split32`). Every weakly fair execution then terminates, no copy faulting and no wait unanswered,
  the three arguments unchanged, every semaphore back at zero, and the result array at `out` (`run_main`).
-/
module

public import proofs.«01_k».proof.Proof.Tile

@[expose] public section

noncomputable section

namespace Cert.Proof.Launch

open Cert.KernelIdeal Cert.KernelIdeal.Gen
open Cert.Proof.Search Cert.Proof.Trip Cert.Proof.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type}

local notation "𝕄" => MT nD τ sig (HIx 1) (Elt F) ℕ UU ℕ

theorem nCore_zero : (K (F := F)).nCore 0 = 2 := rfl
theorem nSub_zero : (K (F := F)).nSub 0 = 16 := rfl
abbrev D [FloatOps F] [Named F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := embL

/-! ## The arrays through @main -/

variable (m : (ℓ : Loc nD τ sig) → Buf (Elt F) ℓ) (ρ : Dev nD → PrngReg)

abbrev aLoc (d : Dev nD) : Loc nD τ sig := (SparseCore.T d).loc main_arg0
abbrev gLoc (d : Dev nD) : Loc nD τ sig := (SparseCore.T d).loc main_arg2
abbrev rLoc (d : Dev nD) : Loc nD τ sig := (SparseCore.T d).loc main_v2

abbrev a' : DevRef τ sig := Proc.devRef .tc (main_arg0 : Ref sig .tc)
abbrev t' : DevRef τ sig := Proc.devRef .tc (main_arg1 : Ref sig .tc)
abbrev g' : DevRef τ sig := Proc.devRef .tc (main_arg2 : Ref sig .tc)
abbrev v' : DevRef τ sig := Proc.devRef .tc (main_v0 : Ref sig .tc)
abbrev o' : DevRef τ sig := Proc.devRef .tc (main_v1 : Ref sig .tc)
abbrev r' : DevRef τ sig := Proc.devRef .tc (main_v2 : Ref sig .tc)

/-- The operation before the call, and the one after it. -/
abbrev opFlat : HloOp τ sig (Elt F) := StableHlo.reshape main_arg0 main_v0 (rfl : (.f32 : EltTy) = .f32) shapeCasts_S16384x1_S16384
abbrev opLast : HloOp τ sig (Elt F) :=
  StableHlo.unary main_v1 main_v2 (broadcastInDim S16384x1 ![0] bcast_S16384_S16384x1_0 : (⟨S16384, .f32⟩ : BufTy).Contents (Elt F) → (⟨S16384x1, .f32⟩ : BufTy).Contents (Elt F))

/-- The TensorCore's arrays, all unscoped. -/
abbrev S6 : Finset (DevRef τ sig) := {a', t', g', v', o', r'}

/-- The arrays at launch; after the flattening; with the kernel's results `f`; at the end. -/
def V0 (d : Dev nD) : Valuation τ sig (Elt F) := fun b => m (d, b)
def V1 (d : Dev nD) : Valuation τ sig (Elt F) := (opFlat (F := F)).result (V0 m d)
def V2 (d : Dev nD) (f : Buf (Elt F) (oLoc d)) : Valuation τ sig (Elt F) := Function.update (V1 m d) o' f
def V3 (d : Dev nD) (f : Buf (Elt F) (oLoc d)) : Valuation τ sig (Elt F) := (opLast (F := F)).result (V2 m d f)

/-- The table and the numbers the call is handed. -/
abbrev tab (d : Dev nD) : Buf (Elt F) (tLoc d) := m (tLoc d)
abbrev nums (d : Dev nD) : Buf (Elt F) (vLoc d) := V1 m d v'

theorem V1_of_ne (d : Dev nD) {b : DevRef τ sig} (h : b ≠ v') : V1 m d b = m (d, b) :=
  (opFlat (F := F)).result_of_not_mem (V0 m d) (fun hb => h (Finset.mem_singleton.mp hb))
theorem V2_o (d : Dev nD) (f : Buf (Elt F) (oLoc d)) : V2 m d f o' = f := Function.update_self _ _ _
theorem V2_of_ne (d : Dev nD) (f : Buf (Elt F) (oLoc d)) {b : DevRef τ sig} (h : b ≠ o') : V2 m d f b = V1 m d b := Function.update_of_ne h _ _
theorem V3_of_ne (d : Dev nD) (f : Buf (Elt F) (oLoc d)) {b : DevRef τ sig} (h : b ≠ r') : V3 m d f b = V2 m d f b :=
  (opLast (F := F)).result_of_not_mem (V2 m d f) (fun hb => h (Finset.mem_singleton.mp hb))

/-- A number as the call reads it: the launch's, at the same row. -/
theorem nums_apply (d : Dev nD) (i : S16384.Idx) : nums m d i = m (aLoc d) (Shape.reshapeEquiv shapeCasts_S16384x1_S16384 i) := by
  unfold nums V1
  rw [StableHlo.reshape_result]
  rfl

theorem held_S6 (d : Dev nD) (W : Valuation τ sig (Elt F)) :
    (held (T d) S6 W : sProp 𝕄) = iprop((aLoc d ↦{fullShare} W a') ∗ (tLoc d ↦{fullShare} W t') ∗ (gLoc d ↦{fullShare} W g')
      ∗ (vLoc d ↦{fullShare} W v') ∗ (oLoc d ↦{fullShare} W o') ∗ rLoc d ↦{fullShare} W r') := by
  unfold held S6
  rw [SparseCore.bigSep_insert' (by decide), SparseCore.bigSep_insert' (by decide), SparseCore.bigSep_insert' (by decide),
    SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄) = iprop((aLoc d ↦{fullShare} W main_arg0) ∗ (tLoc d ↦{fullShare} W main_arg1) ∗ (gLoc d ↦{fullShare} W main_arg2)
      ∗ (vLoc d ↦{fullShare} W main_v0) ∗ (oLoc d ↦{fullShare} W main_v1) ∗ rLoc d ↦{fullShare} W main_v2) := by
  unfold unscopedBufs
  rw [show (Finset.univ.filter fun b : Ref sig .tc => ¬ b.isScoped) = {main_arg0, main_arg1, main_arg2, main_v0, main_v1, main_v2} by decide,
    SparseCore.bigSep_insert' (by decide), SparseCore.bigSep_insert' (by decide), SparseCore.bigSep_insert' (by decide),
    SparseCore.bigSep_insert' (by decide), SparseCore.bigSep_insert' (by decide), bigSep_singleton]

theorem unscoped_held (d : Dev nD) : (unscopedBufs d (fun b => m ((SparseCore.T d).loc b)) : sProp 𝕄) = held (T d) S6 (V0 m d) := by
  rw [unscopedBufs_eq, held_S6]; rfl

/-! ## The split among the 32 tiles -/

/-- Tile `k`'s share of the table. -/
abbrev share (k : Fin 32) : PosShare TreeShare := Transfers.dealOf fullShare Finset.univ k

theorem blks_disjoint : ∀ i ∈ (Finset.univ : Finset (Fin 32)), ∀ j ∈ (Finset.univ : Finset (Fin 32)), i ≠ j → Disjoint (blkSet i) (blkSet j) :=
  fun _ _ _ _ h => Rect.part_disjoint div32 h
theorem blks_cover : (Finset.univ : Finset (Fin 32)).biUnion blkSet = Finset.univ := Rect.biUnion_part div32

theorem vPts_blks (d : Dev nD) (f : Buf (Elt F) (vLoc d)) :
    (vLoc d ↦{fullShare} f : sProp 𝕄) = bigSep Finset.univ fun k : Fin 32 => vLoc d ↦[blkSet k]{fullShare} f := by
  rw [← pointsTo_biUnion Finset.univ (ℓ := vLoc d) blkSet blks_disjoint, blks_cover]
theorem oPts_blks (d : Dev nD) (f : Buf (Elt F) (oLoc d)) :
    (oLoc d ↦{fullShare} f : sProp 𝕄) = bigSep Finset.univ fun k : Fin 32 => oLoc d ↦[blkSet k]{fullShare} f := by
  rw [← pointsTo_biUnion Finset.univ (ℓ := oLoc d) blkSet blks_disjoint, blks_cover]

/-- The three arrays whole are the 32 tasks' holdings of them. -/
theorem split32 (d : Dev nD) (tb : Buf (Elt F) (tLoc d)) (xs : Buf (Elt F) (vLoc d)) (f : Buf (Elt F) (oLoc d)) :
    (iprop((tLoc d ↦{fullShare} tb) ∗ (vLoc d ↦{fullShare} xs) ∗ (oLoc d ↦{fullShare} f)) : sProp 𝕄)
      = bigSep Finset.univ fun k : Fin 32 => task d (share k) k tb xs f := by
  unfold task
  rw [bigSep_sep', bigSep_sep', vPts_blks, oPts_blks, Transfers.pointsTo_deal (Finset.univ : Finset (Fin 32)) Finset.univ_nonempty fullShare]

/-- The block of SparseCore `c`'s tile `s`. -/
def blkOf : Fin 2 × Fin 16 ≃ Fin 32 where
  toFun p := ⟨2 * p.2.val + p.1.val, by omega⟩
  invFun k := (⟨k.val % 2, by omega⟩, ⟨k.val / 2, by omega⟩)
  left_inv p := by
    apply Prod.ext <;> apply Fin.ext
    · show (2 * p.2.val + p.1.val) % 2 = p.1.val; omega
    · show (2 * p.2.val + p.1.val) / 2 = p.2.val; omega
  right_inv k := Fin.ext (by show 2 * (k.val / 2) + k.val % 2 = k.val; omega)

theorem bigSep_blkOf (Φ : Fin 32 → sProp 𝕄) :
    bigSep Finset.univ Φ = bigSep Finset.univ fun c : Fin 2 => bigSep Finset.univ fun s : Fin 16 => Φ (blkOf (c, s)) := by
  rw [bigSep_univ_equiv blkOf, bigSep_univ_prod]

variable [FloatOps F] [Named F]

/-- What tile `k` takes to its task and brings back. -/
abbrev taskIn (d : Dev nD) (k : Fin 32) : sProp 𝕄 := task d (share k) k (tab m d) (nums m d) (m (oLoc d))
abbrev taskOut (d : Dev nD) (k : Fin 32) : sProp 𝕄 := task d (share k) k (tab m d) (nums m d) (res (F := F) (tab m d) (nums m d))

instance task_storable (d : Dev nD) (q : PosShare TreeShare) (k : Fin 32) (tb : Buf (Elt F) (tLoc d)) (xs : Buf (Elt F) (vLoc d)) (f : Buf (Elt F) (oLoc d)) :
    BI.Storable (upEmb : UEmb _ 𝕄) (task d q k tb xs f) := by unfold task; infer_instance

/-- The one call: each SparseCore takes its sixteen tiles' holdings, each tile its own. -/
def P : (K (F := F)).Pay (nD := nD) (Val := Elt F) (Name := ℕ) (U := UU) where
  st := fun q d c => match q with | 0 => bigSep Finset.univ fun s : Fin 16 => taskIn m d (blkOf (Fin.cast nCore_zero c, s))
  dn := fun q d c => match q with | 0 => bigSep Finset.univ fun s : Fin 16 => taskOut m d (blkOf (Fin.cast nCore_zero c, s))
  go := fun q d c i => match q with | 0 => taskIn m d (blkOf (Fin.cast nCore_zero c, Fin.cast nSub_zero i))
  td := fun q d c i => match q with | 0 => taskOut m d (blkOf (Fin.cast nCore_zero c, Fin.cast nSub_zero i))
  x := fun _ _ => iprop(emp)

instance P_storable : (P (F := F) m).IsStorable where
  st q d c := match q with
    | 0 => (inferInstance : BI.Storable (upEmb : UEmb _ 𝕄) (bigSep Finset.univ fun s : Fin 16 => taskIn m d (blkOf (Fin.cast nCore_zero c, s))))
  dn q d c := match q with
    | 0 => (inferInstance : BI.Storable (upEmb : UEmb _ 𝕄) (bigSep Finset.univ fun s : Fin 16 => taskOut m d (blkOf (Fin.cast nCore_zero c, s))))
  go q d c i := match q with
    | 0 => (inferInstance : BI.Storable (upEmb : UEmb _ 𝕄) (taskIn m d (blkOf (Fin.cast nCore_zero c, Fin.cast nSub_zero i))))
  td q d c i := match q with
    | 0 => (inferInstance : BI.Storable (upEmb : UEmb _ 𝕄) (taskOut m d (blkOf (Fin.cast nCore_zero c, Fin.cast nSub_zero i))))

/-! ## The obligations of the launch theorem -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__calib_body (coordsV c s)
          xV (Memref.isWhole_whole _) tV (Memref.isWhole_whole _) oV (Memref.isWhole_whole _) sT (Memref.isWhole_whole _)
            sX (Memref.isWhole_whole _) sO (Memref.isWhole_whole _) cc0_scratch3 cc0_scratch4 cc0_scoped0) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (share (blkOf (Fin.cast nCore_zero c, Fin.cast nSub_zero i))) (tab m d) (nums m d) (m (oLoc d)) O W hO).trans
    (wp_mono frame _ _ fun _ => obl_post)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show (bigSep Finset.univ fun s : Fin 16 => taskIn m d (blkOf (Fin.cast nCore_zero c, s))) ⊢ |={Set.univ}=> iprop(
      (bigSep Finset.univ fun i : Fin ((K (F := F)).nSub 0) => taskIn m d (blkOf (Fin.cast nCore_zero c, Fin.cast nSub_zero i)))
      ∗ ((bigSep Finset.univ fun i : Fin ((K (F := F)).nSub 0) => taskOut m d (blkOf (Fin.cast nCore_zero c, Fin.cast nSub_zero i)))
          -∗ bigSep Finset.univ fun s : Fin 16 => taskOut m d (blkOf (Fin.cast nCore_zero c, s))))
  rw [bigSep_tasks (F := F) (fun s => taskIn m d (blkOf (Fin.cast nCore_zero c, s))),
    bigSep_tasks (F := F) (fun s => taskOut m d (blkOf (Fin.cast nCore_zero c, s)))]
  iintro H; imodintro
  isplitl [H]; · iexact H
  iintro H; iexact H

/-! ## The launch's ghost state: the handshakes' rounds -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main -/

theorem st0_eq (d : Dev nD) : (bigSep Finset.univ fun c : Fin ((K (F := F)).nCore 0) => (P m).st 0 d c)
    = iprop((tLoc d ↦{fullShare} tab m d) ∗ (vLoc d ↦{fullShare} nums m d) ∗ (oLoc d ↦{fullShare} m (oLoc d))) := by
  rw [split32, bigSep_blkOf]; rfl
theorem dn0_eq (d : Dev nD) : (bigSep Finset.univ fun c : Fin ((K (F := F)).nCore 0) => (P m).dn 0 d c)
    = iprop((tLoc d ↦{fullShare} tab m d) ∗ (vLoc d ↦{fullShare} nums m d) ∗ (oLoc d ↦{fullShare} res (F := F) (tab m d) (nums m d))) := by
  rw [split32, bigSep_blkOf]; rfl

theorem hFlat : (opFlat (F := F)).bufs ⊆ S6 := show ({a', v'} : Finset (DevRef τ sig)) ⊆ S6 by decide
theorem hLast : (opLast (F := F)).bufs ⊆ S6 := show ({o', r'} : Finset (DevRef τ sig)) ⊆ S6 by decide

/-- What the program leaves in its result array. -/
def out (d : Dev nD) : Buf (Elt F) (rLoc d) := V3 m d (res (F := F) (tab m d) (nums m d)) r'

/-- What @main leaves the claim: the arguments at their launch contents, the result array at `out`. -/
abbrev FIN (d : Dev nD) : sProp 𝕄 :=
  iprop((aLoc d ↦{fullShare} m (aLoc d)) ∗ (tLoc d ↦{fullShare} m (tLoc d)) ∗ (gLoc d ↦{fullShare} m (gLoc d)) ∗ (rLoc d ↦{fullShare} out m d))

theorem held_V1 (d : Dev nD) : (held (T d) S6 ((opFlat (F := F)).result (V0 m d)) : sProp 𝕄)
    = iprop((aLoc d ↦{fullShare} m (aLoc d)) ∗ (tLoc d ↦{fullShare} tab m d) ∗ (gLoc d ↦{fullShare} m (gLoc d))
      ∗ (vLoc d ↦{fullShare} nums m d) ∗ (oLoc d ↦{fullShare} m (oLoc d)) ∗ rLoc d ↦{fullShare} m (rLoc d)) := by
  rw [show (opFlat (F := F)).result (V0 m d) = V1 m d from rfl, held_S6, V1_of_ne m d (b := a') (by decide), V1_of_ne m d (b := t') (by decide),
    V1_of_ne m d (b := g') (by decide), V1_of_ne m d (b := o') (by decide), V1_of_ne m d (b := r') (by decide)]
theorem held_V2 (d : Dev nD) (f : Buf (Elt F) (oLoc d)) : (held (T d) S6 (V2 m d f) : sProp 𝕄)
    = iprop((aLoc d ↦{fullShare} m (aLoc d)) ∗ (tLoc d ↦{fullShare} tab m d) ∗ (gLoc d ↦{fullShare} m (gLoc d))
      ∗ (vLoc d ↦{fullShare} nums m d) ∗ (oLoc d ↦{fullShare} f) ∗ rLoc d ↦{fullShare} m (rLoc d)) := by
  rw [held_S6, V2_of_ne m d f (b := a') (by decide), V2_of_ne m d f (b := t') (by decide), V2_of_ne m d f (b := g') (by decide),
    V2_of_ne m d f (b := v') (by decide), V2_o, V2_of_ne m d f (b := r') (by decide), V1_of_ne m d (b := a') (by decide), V1_of_ne m d (b := t') (by decide),
    V1_of_ne m d (b := g') (by decide), V1_of_ne m d (b := r') (by decide)]
theorem held_V3 (d : Dev nD) (f : Buf (Elt F) (oLoc d)) : (held (T d) S6 ((opLast (F := F)).result (V2 m d f)) : sProp 𝕄)
    = iprop((aLoc d ↦{fullShare} m (aLoc d)) ∗ (tLoc d ↦{fullShare} tab m d) ∗ (gLoc d ↦{fullShare} m (gLoc d))
      ∗ (vLoc d ↦{fullShare} nums m d) ∗ (oLoc d ↦{fullShare} f) ∗ rLoc d ↦{fullShare} V3 m d f r') := by
  rw [show (opLast (F := F)).result (V2 m d f) = V3 m d f from rfl, held_S6, V3_of_ne m d f (b := a') (by decide), V3_of_ne m d f (b := t') (by decide),
    V3_of_ne m d f (b := g') (by decide), V3_of_ne m d f (b := v') (by decide), V3_of_ne m d f (b := o') (by decide),
    V2_of_ne m d f (b := a') (by decide), V2_of_ne m d f (b := t') (by decide), V2_of_ne m d f (b := g') (by decide), V2_of_ne m d f (b := v') (by decide), V2_o,
    V1_of_ne m d (b := a') (by decide), V1_of_ne m d (b := t') (by decide), V1_of_ne m d (b := g') (by decide)]

/-- @main on device `d`'s TensorCore. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opFlat) (S := S6) hFlat (V := V0 m d)) $$ [Hb Hheld]
  · isplitl [Hb]; · iexact Hb
    iexact Hheld
  iintro ⟨Hb, Hheld⟩
  rw [wp_ret]; imodintro
  ihave Hh := (Entails.of_eq (held_V1 (F := F) m d)) $$ Hheld
  icases Hh with ⟨Ha, Ht, Hg, Hv, Ho, Hr⟩
  iapply ((K (F := F)).wp_run (D (F := F)) 𝒱 (EH := EH) (P := P m) κ d 0) $$ [Hst Ha Ht Hg Hv Ho Hr Hb Hts]
  isplitr; · iexact Hctx
  isplitl [Hst]; · iexact Hst
  isplitl [Ht Hv Ho]
  · rw [st0_eq]
    isplitl [Ht]; · iexact Ht
    isplitl [Hv]; · iexact Hv
    iexact Ho
  iintro ⟨Hst, Hdn⟩
  ihave Hdn' := (Entails.of_eq (dn0_eq m d)) $$ Hdn
  icases Hdn' with ⟨Ht, Hv, Ho⟩
  iapply (wp_hlo_within 𝒱 (SparseCore.T d) none Set.univ (op := opLast) (S := S6) hLast (V := V2 m d (res (F := F) (tab m d) (nums m d)))) $$ [Hb Ha Ht Hg Hv Ho Hr]
  · isplitl [Hb]; · iexact Hb
    rw [held_V2]
    isplitl [Ha]; · iexact Ha
    isplitl [Ht]; · iexact Ht
    isplitl [Hg]; · iexact Hg
    isplitl [Hv]; · iexact Hv
    isplitl [Ho]; · iexact Ho
    iexact Hr
  iintro ⟨Hb, Hheld⟩
  ihave Hh := (Entails.of_eq (held_V3 (F := F) m d _)) $$ Hheld
  icases Hh with ⟨Ha, Ht, Hg, Hv, Ho, Hr⟩
  rw [wp_ret]; imodintro; imodintro
  isplitl [Hst]; · iexact Hst
  isplitr [Hb Hts]
  · isplitl [Ha]; · iexact Ha
    isplitl [Ht]; · iexact Ht
    isplitl [Hg]; · iexact Hg
    iexact Hr
  isplitl [Hb] <;> iassumption

def fq (d : Dev nD) (s' : Phys nD τ sig (Elt F)) : Prop :=
  s'.mem.mem (rLoc d) = out m d ∧ s'.mem.mem (aLoc d) = m (aLoc d) ∧ s'.mem.mem (tLoc d) = m (tLoc d) ∧ s'.mem.mem (gLoc d) = m (gLoc d)

set_option maxRecDepth 16384 in
theorem hfin (d : Dev nD) (s' : Phys nD τ sig (Elt F)) : iprop(FIN m d ∗ SI s') ⊢ (⌜fq m d s'⌝ : sProp 𝕄) := by
  iintro ⟨⟨Ha, Ht, Hg, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (persistent_entails_right (SI_pointsTo_agree (st := s') (ℓ := gLoc d) (I := Finset.univ) (q := fullShare) (f := m (gLoc d)))) $$ [HSI Hg]
  · isplitl [HSI] <;> iassumption
  icases H with ⟨%h3, HSI, -⟩
  ihave H := (SI_pointsTo_agree (st := s') (ℓ := rLoc d) (I := Finset.univ) (q := fullShare) (f := out m d)) $$ [HSI Hr]
  · isplitl [HSI] <;> iassumption
  icases H with %h4
  ipureintro
  exact ⟨funext fun i => h4 i (Finset.mem_univ i), funext fun i => h1 i (Finset.mem_univ i), funext fun i => h2 i (Finset.mem_univ i),
    funext fun i => h3 i (Finset.mem_univ i)⟩

/-! ## The program's run -/

def QC : PUnit × MemSt nD τ sig (Elt F) → Prop := fun r =>
  (∀ d : Dev nD, r.2.mem (rLoc d) = out m d ∧ r.2.mem (aLoc d) = m (aLoc d) ∧ r.2.mem (tLoc d) = m (tLoc d) ∧ r.2.mem (gLoc d) = m (gLoc d))
    ∧ r.2.sem = fun _ => 0

/-- The run: it ends, nothing faulting, the arguments unchanged, the result at `out`, the semaphores at zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Launch

end
-- ==== Proof.Same.lean ====
/-
  The kernel at machine words: the program that names no constant is the other one with its named constant read as the
  literal it stands for, so its run is `Launch.run_main` at `Bits`.
-/
module

public import proofs.«01_k».proof.Defs
public import proofs.«01_k».proof.Proof.Gen.Kernel
public import proofs.«01_k».proof.Proof.Gen.Kernel.Skeleton
public import proofs.«01_k».proof.Proof.Gen.Pre_ramp
public import proofs.«01_k».proof.Proof.Launch

@[expose] public section

noncomputable section

namespace Cert.Proof.Same

open Idealize.ShloMosaic Idealize.SL.Sem

/-- Each named constant read as its bit pattern. -/
@[reducible] def literalNamed : Named Bits := ⟨fun _ _ {φ} bits => Scalar.ofBits φ bits⟩

theorem sig_eq : Cert.Kernel.sig = Cert.KernelIdeal.sig := rfl

theorem defs_eq : Cert.Kernel.defs (F := Bits) = @Cert.KernelIdeal.defs Bits _ literalNamed _ := rfl

theorem threads_eq : Cert.Kernel.threads (F := Bits) = (letI := literalNamed; Cert.KernelIdeal.threads (F := Bits)) := rfl

/-- The kernel's frame: its run, read at the arguments and the semaphores. -/
theorem frame : Cert.quiescent_Kernel := by
  intro m ρ _
  letI := literalNamed
  exact (θ_run (Cert.KernelIdeal.defs (F := Bits)) _ _).mono (fun _ h => ⟨fun c => (h.1 c).2, h.2⟩) (Launch.run_main (F := Bits) m ρ)

/-- The idealized kernel's frame. -/
theorem frame_ideal : Cert.quiescent_KernelIdeal := fun m ρ _ =>
  (θ_run (Cert.KernelIdeal.defs (F := Ideal)) _ _).mono (fun _ h => ⟨fun c => (h.1 c).2, h.2⟩) (Launch.run_main (F := Ideal) m ρ)

/-- The same under the precondition of the value claim, which it does not use. -/
theorem frame_ideal_ramp : Cert.quiescent_KernelIdeal_pre_ramp := fun m ρ _ => frame_ideal m ρ trivial

end Cert.Proof.Same

end
-- ==== Proof.RefRun.lean ====
/-
  The reference's program: a straight line of array operations, run by hand.

  The module-local functions are lists of operations over their arguments and one call's buffers (`wrapOps`, `takeOps`,
  `pickOps`), and @main is one list, `ops` (`main_eq`). Every weakly fair execution then leaves each buffer at the
  list's fold over the launch contents (`run_main`); at the result buffer that fold is `out` of the three arguments
  (`out_eq`), and at each argument it is what the argument held (`arg0_eq` … `arg2_eq`).
-/
module

public import proofs.«01_k».proof.Proof.Gen.ReferenceIdeal
public import Idealize.ShloMosaic.Lib.StableHlo.Run
public import Idealize.ShloMosaic.Lib.StableHlo.RunRead
public import Idealize.ShloMosaic.Lib.Pipeline.Frame

@[expose] public section

noncomputable section

namespace Cert.Proof.RefRun

open Cert.ReferenceIdeal Cert.ReferenceIdeal.Gen
open Idealize.ShloMosaic Idealize.ShloMosaic.TcCoe Idealize.ShloMosaic.StableHlo Idealize.SL.Sem

variable {F : FTy → Type} [FloatOps F]

/-! ## What it computes -/

/-- One element of the table, as a scalar: a slice of length one, reshaped. -/
def first (t : FVec F S10000 .f32) : FVec F S_ .f32 :=
  shapeCast S_ (extractStridedSlice S1 ![0] t slices_S10000_S1_0) shapeCasts_S1_S_

def last (t : FVec F S10000 .f32) : FVec F S_ .f32 :=
  shapeCast S_ (extractStridedSlice S1 ![9999] t slices_S10000_S1_9999) shapeCasts_S1_S_

/-- "Entry `n` of the table exceeds number `j`", for every `j` and `n`. -/
def above (x : FVec F S16384 .f32) (t : FVec F S10000 .f32) : IVec S16384x10000 1 :=
  cmpf .ogt
    (broadcastInDim S16384x10000 ![0, 1] bcast_S1x10000_S16384x10000_0_1 (broadcastInDim S1x10000 ![1] bcast_S10000_S1x10000_1 t))
    (broadcastInDim S16384x10000 ![0, 1] bcast_S16384x1_S16384x10000_0_1 (broadcastInDim S16384x1 ![0] bcast_S16384_S16384x1_0 x))

/-- Along each row the position of the largest flag, the earliest on ties. -/
def argmax (b : IVec S16384x10000 1) : IVec S16384 32 := fun j =>
  (Host.reduce2 reducer_argmax_i16_i32 (extui 16 b natLt_1_16) (iotaInDim S16384x10000 32 1) (constantI S_ 16 32768#16)
    (constantI S_ 32 0#32) reducesTo_S16384x10000_S16384_d1 h_S_ j).2

/-- The position before. -/
def before (i : IVec S16384 32) : IVec S16384 32 :=
  subi i (broadcastInDim S16384 ![] bcast_S_S16384 (constantI S_ 32 1#32))

/-- The divisor of the wrap-around: the table's length, or one if that were zero. -/
def period : IVec S_ 32 :=
  select (cmpi .eq (constantI S_ 32 10000#32) (constantI S_ 32 0#32)) (constantI S_ 32 1#32) (constantI S_ 32 10000#32)

/-- A position wrapped around the table: the remainder, the divisor's sign given to it. -/
def wrap (i : IVec S16384 32) : IVec S16384 32 :=
  let p : IVec S16384 32 := broadcastInDim S16384 ![] bcast_S_S16384 period
  let r : IVec S16384 32 := Host.remsi i p
  let z : IVec S16384 32 := broadcastInDim S16384 ![] bcast_S_S16384 (constantI S_ 32 0#32)
  select
    (andi (cmpi .ne (cmpi .slt r z) (broadcastInDim S16384 ![] bcast_S_S16384 (cmpi .slt period (constantI S_ 32 0#32))))
      (cmpi .ne r z))
    (addi r p) r

/-- The table at given positions. -/
def take (t : FVec F S10000 .f32) (i : IVec S16384 32) : FVec F S16384 .f32 :=
  Host.gather gather_S10000_S16384x1_S16384_n_0_n_n_0_1_1 t (broadcastInDim S16384x1 ![0] bcast_S16384_S16384x1_0 (wrap i))

/-- The line through two neighbouring points of the table, at each number: `hi` and `lo` the table's entries there,
    `ohi` and `olo` the other table's. -/
def line (x hi lo ohi olo : FVec F S16384 .f32) : FVec F S16384 .f32 :=
  addf olo (mulf (Host.divf (subf ohi olo) (subf hi lo)) (subf x lo))

/-- The other table's first entry below the table's first entry, its last above the last, and `y` between. -/
def ends (x : FVec F S16384 .f32) (ri ro : FVec F S10000 .f32) (y : FVec F S16384 .f32) : FVec F S16384 .f32 :=
  select (cmpf .oge x (broadcastInDim S16384 ![] bcast_S_S16384 (last ri))) (broadcastInDim S16384 ![] bcast_S_S16384 (last ro))
    (select (cmpf .ole x (broadcastInDim S16384 ![] bcast_S_S16384 (first ri))) (broadcastInDim S16384 ![] bcast_S_S16384 (first ro)) y)

/-- The results as a vector, `i` the positions found. -/
def flat (x : FVec F S16384 .f32) (ri ro : FVec F S10000 .f32) (i : IVec S16384 32) : FVec F S16384 .f32 :=
  ends x ri ro (line x (take ri i) (take ri (before i)) (take ro i) (take ro (before i)))

/-- The result array, from the three arguments. -/
def out (x : FVec F S16384x1 .f32) (ri ro : FVec F S10000 .f32) : FVec F S16384x1 .f32 :=
  broadcastInDim S16384x1 ![0] bcast_S16384_S16384x1_0
    (flat (shapeCast S16384 x shapeCasts_S16384x1_S16384) ri ro
      (argmax (above (shapeCast S16384 x shapeCasts_S16384x1_S16384) ri)))

/-! ## The operations -/

/-- @remainder's twenty operations, over its arguments and one call's buffers (`_where`'s select the fourth). -/
abbrev wrapOps (a : TRef sig ⟨S16384, .i32⟩) (b : TRef sig ⟨S_, .i32⟩) (φ : fn_remainder.Bufs) : List (HloOp τ sig (Elt F)) :=
  [ TRef.nullary φ.c (constantI S_ 32 0#32),
    TRef.binary b φ.c φ.v0 (cmpi .eq),
    TRef.nullary φ.c_0 (constantI S_ 32 1#32),
    TRef.ternary φ.v0 φ.c_0 b φ.call0.v0 select,
    TRef.unary φ.call0.v0 φ.v2 (broadcastInDim S16384 ![] bcast_S_S16384),
    TRef.binary a φ.v2 φ.v3 Host.remsi,
    TRef.nullary φ.c_1 (constantI S_ 32 0#32),
    TRef.unary φ.c_1 φ.v4 (broadcastInDim S16384 ![] bcast_S_S16384),
    TRef.binary φ.v3 φ.v4 φ.v5 (cmpi .ne),
    TRef.nullary φ.c_2 (constantI S_ 32 0#32),
    TRef.unary φ.c_2 φ.v6 (broadcastInDim S16384 ![] bcast_S_S16384),
    TRef.binary φ.v3 φ.v6 φ.v7 (cmpi .slt),
    TRef.nullary φ.c_3 (constantI S_ 32 0#32),
    TRef.binary φ.call0.v0 φ.c_3 φ.v8 (cmpi .slt),
    TRef.unary φ.v8 φ.v9 (broadcastInDim S16384 ![] bcast_S_S16384),
    TRef.binary φ.v7 φ.v9 φ.v10 (cmpi .ne),
    TRef.binary φ.v10 φ.v5 φ.v11 andi,
    TRef.unary φ.call0.v0 φ.v12 (broadcastInDim S16384 ![] bcast_S_S16384),
    TRef.binary φ.v3 φ.v12 φ.v13 addi,
    TRef.ternary φ.v11 φ.v13 φ.v3 φ.v14 select ]

/-- @_take's: the length, the remainder's twenty, the positions' column, the gather. -/
abbrev takeOps (t : TRef sig ⟨S10000, .f32⟩) (i : TRef sig ⟨S16384, .i32⟩) (φ : fn_take.Bufs) : List (HloOp τ sig (Elt F)) :=
  TRef.nullary φ.c (constantI S_ 32 10000#32) :: wrapOps i φ.c φ.call0 ++
  [ TRef.unary φ.call0.v14 φ.v1 (broadcastInDim S16384x1 ![0] bcast_S16384_S16384x1_0),
    TRef.binary t φ.v1 φ.v2 (fun x i => Host.gather gather_S10000_S16384x1_S16384_n_0_n_n_0_1_1 x i) ]

/-- @_where's at the end of @main: the scalar broadcast, the select. -/
abbrev pickOps (p : TRef sig ⟨S16384, .i1⟩) (a : TRef sig ⟨S_, .f32⟩) (b : TRef sig ⟨S16384, .f32⟩) (φ : fn_where_0.Bufs) :
    List (HloOp τ sig (Elt F)) :=
  [ TRef.unary a φ.v0 (broadcastInDim S16384 ![] bcast_S_S16384),
    TRef.ternary p φ.v0 b φ.v1 select ]

/-- @main up to the position found: the flags, then @argmax's five. -/
abbrev findOps : List (HloOp τ sig (Elt F)) :=
  [ reshape main_arg0 main_v0 rfl shapeCasts_S16384x1_S16384,
    unary main_arg1 main_v1 (broadcastInDim S1x10000 ![1] bcast_S10000_S1x10000_1),
    unary main_v0 main_v2 (broadcastInDim S16384x1 ![0] bcast_S16384_S16384x1_0),
    unary main_v1 main_v3 (broadcastInDim S16384x10000 ![0, 1] bcast_S1x10000_S16384x10000_0_1),
    unary main_v2 main_v4 (broadcastInDim S16384x10000 ![0, 1] bcast_S16384x1_S16384x10000_0_1),
    binary main_v3 main_v4 main_v5 (cmpf .ogt),
    unary main_v5 main_v6 (extui 16 · natLt_1_16),
    TRef.nullary main_call0.v0 (iotaInDim S16384x10000 32 1),
    TRef.nullary main_call0.c (constantI S_ 16 32768#16),
    TRef.nullary main_call0.c_0 (constantI S_ 32 0#32),
    TRef.quaternary (.of main_v6) main_call0.v0 main_call0.c main_call0.c_0 main_call0.v1_0
      (fun x y u v j => (Host.reduce2 reducer_argmax_i16_i32 x y u v reducesTo_S16384x10000_S16384_d1 h_S_ j).1),
    TRef.quaternary (.of main_v6) main_call0.v0 main_call0.c main_call0.c_0 main_call0.v1_1
      (fun x y u v j => (Host.reduce2 reducer_argmax_i16_i32 x y u v reducesTo_S16384x10000_S16384_d1 h_S_ j).2) ]

/-- The position before the one found, computed twice. -/
abbrev beforeOps₁ : List (HloOp τ sig (Elt F)) :=
  [ nullary main_c (constantI S_ 32 1#32),
    unary main_c main_v9 (broadcastInDim S16384 ![] bcast_S_S16384),
    binary main_v7 main_v9 main_v10 subi ]

abbrev beforeOps₂ : List (HloOp τ sig (Elt F)) :=
  [ nullary main_c_0 (constantI S_ 32 1#32),
    unary main_c_0 main_v13 (broadcastInDim S16384 ![] bcast_S_S16384),
    binary main_v7 main_v13 main_v14 subi ]

/-- @main from the four entries read: the line, the table's two ends, the two selects, the last axis. -/
abbrev lineOps : List (HloOp τ sig (Elt F)) :=
  [ binary main_v12 main_v15 main_v16 subf,
    binary main_v8 main_v11 main_v17 subf,
    binary main_v16 main_v17 main_v18 Host.divf,
    binary main_v0 main_v11 main_v19 subf,
    binary main_v18 main_v19 main_v20 mulf,
    binary main_v15 main_v20 main_v21 addf,
    unary main_arg1 main_v22 (extractStridedSlice S1 ![9999] · slices_S10000_S1_9999),
    reshape main_v22 main_v23 rfl shapeCasts_S1_S_,
    unary main_v23 main_v24 (broadcastInDim S16384 ![] bcast_S_S16384),
    binary main_v0 main_v24 main_v25 (cmpf .oge),
    unary main_arg2 main_v26 (extractStridedSlice S1 ![9999] · slices_S10000_S1_9999),
    reshape main_v26 main_v27 rfl shapeCasts_S1_S_,
    unary main_arg1 main_v28 (extractStridedSlice S1 ![0] · slices_S10000_S1_0),
    reshape main_v28 main_v29 rfl shapeCasts_S1_S_,
    unary main_v29 main_v30 (broadcastInDim S16384 ![] bcast_S_S16384),
    binary main_v0 main_v30 main_v31 (cmpf .ole),
    unary main_arg2 main_v32 (extractStridedSlice S1 ![0] · slices_S10000_S1_0),
    reshape main_v32 main_v33 rfl shapeCasts_S1_S_ ] ++
  pickOps (.of main_v31) (.of main_v33) (.of main_v21) main_call5 ++
  pickOps (.of main_v25) (.of main_v27) (.of main_v34) main_call6 ++
  [ unary main_v35 main_v36 (broadcastInDim S16384x1 ![0] bcast_S16384_S16384x1_0) ]

abbrev takeOps₁ : List (HloOp τ sig (Elt F)) := takeOps (.of main_arg1) (.of main_v7) main_call1
abbrev takeOps₂ : List (HloOp τ sig (Elt F)) := takeOps (.of main_arg1) (.of main_v10) main_call2
abbrev takeOps₃ : List (HloOp τ sig (Elt F)) := takeOps (.of main_arg2) (.of main_v7) main_call3
abbrev takeOps₄ : List (HloOp τ sig (Elt F)) := takeOps (.of main_arg2) (.of main_v14) main_call4

/-- @main's operations in order, the calls unfolded. -/
abbrev ops : List (HloOp τ sig (Elt F)) :=
  findOps ++ (takeOps₁ ++ (beforeOps₁ ++ (takeOps₂ ++ (takeOps₃ ++ (beforeOps₂ ++ (takeOps₄ ++ lineOps))))))

-- some 140 binds re-associated: the rewrite under the chain recurses once per operation
set_option maxRecDepth 4096 in
/-- @main is that straight line. -/
theorem main_eq (c : Dev nD) : main (F := F) c = seq ops := by
  simp only [main, fn_argmax.body, fn_take.body, fn_remainder.body, fn_where.body, fn_where_0.body, ops, findOps, takeOps₁, takeOps₂,
    takeOps₃, takeOps₄, takeOps, wrapOps, beforeOps₁, beforeOps₂, lineOps, pickOps, List.cons_append, List.nil_append, seq, bind_assoc, pure_bind]
  rfl

/-! ## What each stretch of it leaves -/

section
variable (V : Valuation τ sig (Elt F))

theorem find_v0 : after findOps V (no_index (Proc.devRef .tc main_v0))
    = shapeCast S16384 (V (main_arg0 : DevRef τ sig)) shapeCasts_S16384x1_S16384 := by
  after_reads_simp
  rfl

theorem find_v7 : after findOps V (no_index (Proc.devRef .tc main_v7))
    = argmax (above (shapeCast S16384 (V (main_arg0 : DevRef τ sig)) shapeCasts_S16384x1_S16384) (V (main_arg1 : DevRef τ sig))) := by
  after_reads_simp
  rfl

theorem find_arg1 : after findOps V (no_index (Proc.devRef .tc main_arg1)) = V (main_arg1 : DevRef τ sig) := by after_reads_simp
theorem find_arg2 : after findOps V (no_index (Proc.devRef .tc main_arg2)) = V (main_arg2 : DevRef τ sig) := by after_reads_simp

theorem take₁_v8 : after takeOps₁ V (no_index (Proc.devRef .tc main_v8))
    = take (V (main_arg1 : DevRef τ sig)) (V (main_v7 : DevRef τ sig)) := by
  after_reads_simp
  rfl

theorem take₁_v0 : after takeOps₁ V (no_index (Proc.devRef .tc main_v0)) = V (main_v0 : DevRef τ sig) := by after_reads_simp
theorem take₁_v7 : after takeOps₁ V (no_index (Proc.devRef .tc main_v7)) = V (main_v7 : DevRef τ sig) := by after_reads_simp
theorem take₁_arg1 : after takeOps₁ V (no_index (Proc.devRef .tc main_arg1)) = V (main_arg1 : DevRef τ sig) := by after_reads_simp
theorem take₁_arg2 : after takeOps₁ V (no_index (Proc.devRef .tc main_arg2)) = V (main_arg2 : DevRef τ sig) := by after_reads_simp

theorem before₁_v10 : after beforeOps₁ V (no_index (Proc.devRef .tc main_v10)) = before (V (main_v7 : DevRef τ sig)) := by
  after_reads_simp
  rfl

theorem before₁_v0 : after beforeOps₁ V (no_index (Proc.devRef .tc main_v0)) = V (main_v0 : DevRef τ sig) := by after_reads_simp
theorem before₁_v7 : after beforeOps₁ V (no_index (Proc.devRef .tc main_v7)) = V (main_v7 : DevRef τ sig) := by after_reads_simp
theorem before₁_v8 : after beforeOps₁ V (no_index (Proc.devRef .tc main_v8)) = V (main_v8 : DevRef τ sig) := by after_reads_simp
theorem before₁_arg1 : after beforeOps₁ V (no_index (Proc.devRef .tc main_arg1)) = V (main_arg1 : DevRef τ sig) := by after_reads_simp
theorem before₁_arg2 : after beforeOps₁ V (no_index (Proc.devRef .tc main_arg2)) = V (main_arg2 : DevRef τ sig) := by after_reads_simp

theorem take₂_v11 : after takeOps₂ V (no_index (Proc.devRef .tc main_v11))
    = take (V (main_arg1 : DevRef τ sig)) (V (main_v10 : DevRef τ sig)) := by
  after_reads_simp
  rfl

theorem take₂_v0 : after takeOps₂ V (no_index (Proc.devRef .tc main_v0)) = V (main_v0 : DevRef τ sig) := by after_reads_simp
theorem take₂_v7 : after takeOps₂ V (no_index (Proc.devRef .tc main_v7)) = V (main_v7 : DevRef τ sig) := by after_reads_simp
theorem take₂_v8 : after takeOps₂ V (no_index (Proc.devRef .tc main_v8)) = V (main_v8 : DevRef τ sig) := by after_reads_simp
theorem take₂_arg1 : after takeOps₂ V (no_index (Proc.devRef .tc main_arg1)) = V (main_arg1 : DevRef τ sig) := by after_reads_simp
theorem take₂_arg2 : after takeOps₂ V (no_index (Proc.devRef .tc main_arg2)) = V (main_arg2 : DevRef τ sig) := by after_reads_simp

theorem take₃_v12 : after takeOps₃ V (no_index (Proc.devRef .tc main_v12))
    = take (V (main_arg2 : DevRef τ sig)) (V (main_v7 : DevRef τ sig)) := by
  after_reads_simp
  rfl

theorem take₃_v0 : after takeOps₃ V (no_index (Proc.devRef .tc main_v0)) = V (main_v0 : DevRef τ sig) := by after_reads_simp
theorem take₃_v7 : after takeOps₃ V (no_index (Proc.devRef .tc main_v7)) = V (main_v7 : DevRef τ sig) := by after_reads_simp
theorem take₃_v8 : after takeOps₃ V (no_index (Proc.devRef .tc main_v8)) = V (main_v8 : DevRef τ sig) := by after_reads_simp
theorem take₃_v11 : after takeOps₃ V (no_index (Proc.devRef .tc main_v11)) = V (main_v11 : DevRef τ sig) := by after_reads_simp
theorem take₃_arg1 : after takeOps₃ V (no_index (Proc.devRef .tc main_arg1)) = V (main_arg1 : DevRef τ sig) := by after_reads_simp
theorem take₃_arg2 : after takeOps₃ V (no_index (Proc.devRef .tc main_arg2)) = V (main_arg2 : DevRef τ sig) := by after_reads_simp

theorem before₂_v14 : after beforeOps₂ V (no_index (Proc.devRef .tc main_v14)) = before (V (main_v7 : DevRef τ sig)) := by
  after_reads_simp
  rfl

theorem before₂_v0 : after beforeOps₂ V (no_index (Proc.devRef .tc main_v0)) = V (main_v0 : DevRef τ sig) := by after_reads_simp
theorem before₂_v8 : after beforeOps₂ V (no_index (Proc.devRef .tc main_v8)) = V (main_v8 : DevRef τ sig) := by after_reads_simp
theorem before₂_v11 : after beforeOps₂ V (no_index (Proc.devRef .tc main_v11)) = V (main_v11 : DevRef τ sig) := by after_reads_simp
theorem before₂_v12 : after beforeOps₂ V (no_index (Proc.devRef .tc main_v12)) = V (main_v12 : DevRef τ sig) := by after_reads_simp
theorem before₂_arg1 : after beforeOps₂ V (no_index (Proc.devRef .tc main_arg1)) = V (main_arg1 : DevRef τ sig) := by after_reads_simp
theorem before₂_arg2 : after beforeOps₂ V (no_index (Proc.devRef .tc main_arg2)) = V (main_arg2 : DevRef τ sig) := by after_reads_simp

theorem take₄_v15 : after takeOps₄ V (no_index (Proc.devRef .tc main_v15))
    = take (V (main_arg2 : DevRef τ sig)) (V (main_v14 : DevRef τ sig)) := by
  after_reads_simp
  rfl

theorem take₄_v0 : after takeOps₄ V (no_index (Proc.devRef .tc main_v0)) = V (main_v0 : DevRef τ sig) := by after_reads_simp
theorem take₄_v8 : after takeOps₄ V (no_index (Proc.devRef .tc main_v8)) = V (main_v8 : DevRef τ sig) := by after_reads_simp
theorem take₄_v11 : after takeOps₄ V (no_index (Proc.devRef .tc main_v11)) = V (main_v11 : DevRef τ sig) := by after_reads_simp
theorem take₄_v12 : after takeOps₄ V (no_index (Proc.devRef .tc main_v12)) = V (main_v12 : DevRef τ sig) := by after_reads_simp
theorem take₄_arg1 : after takeOps₄ V (no_index (Proc.devRef .tc main_arg1)) = V (main_arg1 : DevRef τ sig) := by after_reads_simp
theorem take₄_arg2 : after takeOps₄ V (no_index (Proc.devRef .tc main_arg2)) = V (main_arg2 : DevRef τ sig) := by after_reads_simp

theorem line_v36 : after lineOps V (no_index (Proc.devRef .tc main_v36))
    = broadcastInDim S16384x1 ![0] bcast_S16384_S16384x1_0
        (ends (V (main_v0 : DevRef τ sig)) (V (main_arg1 : DevRef τ sig)) (V (main_arg2 : DevRef τ sig))
          (line (V (main_v0 : DevRef τ sig)) (V (main_v8 : DevRef τ sig)) (V (main_v11 : DevRef τ sig)) (V (main_v12 : DevRef τ sig))
            (V (main_v15 : DevRef τ sig)))) := by
  after_reads_simp
  rfl

end

/-- The fold at the result buffer. -/
theorem out_eq (V : Valuation τ sig (Elt F)) :
    after ops V (main_v36 : DevRef τ sig)
      = out (V (main_arg0 : DevRef τ sig)) (V (main_arg1 : DevRef τ sig)) (V (main_arg2 : DevRef τ sig)) := by
  rw [ops, after_append findOps, after_append takeOps₁, after_append beforeOps₁, after_append takeOps₂, after_append takeOps₃,
    after_append beforeOps₂, after_append takeOps₄, line_v36]
  simp only [find_v0, find_v7, find_arg1, find_arg2, take₁_v8, take₁_v0, take₁_v7, take₁_arg1, take₁_arg2, before₁_v10, before₁_v0, before₁_v7, before₁_v8, before₁_arg1, before₁_arg2, take₂_v11, take₂_v0, take₂_v7, take₂_v8, take₂_arg1, take₂_arg2, take₃_v12, take₃_v0, take₃_v7, take₃_v8, take₃_v11, take₃_arg1, take₃_arg2, before₂_v14, before₂_v0, before₂_v8, before₂_v11, before₂_v12, before₂_arg1, before₂_arg2, take₄_v15, take₄_v0, take₄_v8, take₄_v11, take₄_v12, take₄_arg1, take₄_arg2]
  rfl

set_option maxRecDepth 4096 in
theorem arg0_eq (V : Valuation τ sig (Elt F)) : after ops V (main_arg0 : DevRef τ sig) = V (main_arg0 : DevRef τ sig) := by
  after_reads_simp

set_option maxRecDepth 4096 in
theorem arg1_eq (V : Valuation τ sig (Elt F)) : after ops V (main_arg1 : DevRef τ sig) = V (main_arg1 : DevRef τ sig) := by
  after_reads_simp

set_option maxRecDepth 4096 in
theorem arg2_eq (V : Valuation τ sig (Elt F)) : after ops V (main_arg2 : DevRef τ sig) = V (main_arg2 : DevRef τ sig) := by
  after_reads_simp

/-! ## The run -/

theorem scopedRefs_eq : (Finset.univ.filter fun b : Ref sig .tc => b.isScoped) = ∅ := by decide
theorem scopedSems_eq : (Finset.univ.filter fun sm : SemLoc sig => sm.isScoped .tc) = ∅ := by decide

set_option maxRecDepth 4096 in
theorem ops_sub : (ops : List (HloOp τ sig (Elt F))).Forall fun op => op.bufs ⊆ tcRefs τ sig := by
  simp only [ops, findOps, takeOps₁, takeOps₂, takeOps₃, takeOps₄, takeOps, wrapOps, beforeOps₁, beforeOps₂, lineOps, pickOps, List.cons_append, List.nil_append, List.forall_cons, List.Forall, and_true,
    TRef.nullary, TRef.unary, TRef.binary, TRef.ternary, TRef.quaternary, nullary_bufs_sub, unary_bufs_sub, binary_bufs_sub,
    ternary_bufs_sub, quaternary_bufs_sub, reshape_bufs_sub, true_and]

/-- From any memory with zero counters: every weakly fair execution of @main on the TensorCores terminates, and every
    final state has each TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.Proof.RefRun

end
-- ==== Proof.Ramp.lean ====
/-
  What the precondition says of the two tables, entry by entry: the first is sorted, and entry `n` of the second is
  `n / 9999`.
-/
module

public import proofs.«01_k».proof.Defs
public import proofs.«01_k».proof.Proof.Gen.Pre_ramp
public import proofs.«01_k».proof.Proof.Search
public import Idealize.ShloMosaic.PureOps.Reduce
public import Idealize.ShloMosaic.PureOps.Ideal.Laws
public import Idealize.ShloMosaic.Lib.StableHlo.Predicate
public import Idealize.ShloMosaic.Lib.ValueIdx

@[expose] public section

noncomputable section

namespace Cert.Proof.Ramp

open Cert.Pre_ramp Cert.Pre_ramp.Gen Cert.Pre_ramp.Facts
open Cert.Proof.Search (pos)
open Idealize.ShloMosaic Idealize.ShloMosaic.StableHlo.Predicate

theorem ideal_one : Ideal.ofBits .f32 0x3F800000#32 = 1 := by
  simp [Ideal.ofBits, Ideal.ieee]
  rw [← EReal.coe_mul, show (8388608 : ℝ) * (2 ^ 23)⁻¹ = 1 by norm_num]
  rfl

theorem ideal_last : Ideal.ofBits .f32 0x461C3C00#32 = ((9999 : ℝ) : EReal) := by
  simp [Ideal.ofBits, Ideal.ieee]
  rw [← EReal.coe_mul]
  norm_num

/-! ## A conjunction over an array -/

theorem foldl_andi_one {α : Type} (x : α → BitVec 1) : ∀ (l : List α) (r : BitVec 1),
    l.foldl (fun r i => IntOp.andi r (x i)) r = 1#1 → r = 1#1 ∧ ∀ i ∈ l, x i = 1#1
  | [], _, h => ⟨h, fun _ hi => absurd hi (by simp)⟩
  | a :: l, r, h => by
    obtain ⟨h1, h2⟩ := foldl_andi_one x l _ h
    obtain ⟨hr, ha⟩ := IntOp.andi_eq_one.mp h1
    exact ⟨hr, fun i hi => (List.mem_cons.mp hi).elim (fun e => e ▸ ha) (h2 i)⟩

/-- A conjunction that holds, holds of every element it ranges over. -/
theorem reduce_andi_one {s o u : Shape} {dims : List (Fin s.rank)} (x : s.Idx → BitVec 1) (init : u.Idx → BitVec 1)
    (h : s.ReducesTo dims o) (hu : 0 < u.numel) (j : o.Idx) (hr : Host.reduce IntOp.andi x init h hu j = 1#1) (i : s.Idx)
    (hi : h.drop i = j) : x i = 1#1 := by
  rw [Host.reduce_eq_foldl] at hr
  refine (foldl_andi_one x _ _ hr).2 i (List.mem_filter.mpr ⟨List.mem_map.mpr ⟨s.rowMajor i, List.mem_finRange _, ?_⟩, decide_eq_true hi⟩)
  rw [Equiv.symm_apply_apply]

/-- At the ideal values a comparison is one exactly when it holds. -/
theorem cmp_le {x y : EReal} : FloatOps.cmpf (F := Ideal) (φ := .f32) .ole x y = 1#1 ↔ x ≤ y :=
  (ofBool_eq_one_iff _).trans decide_eq_true_iff
theorem cmp_ge {x y : EReal} : FloatOps.cmpf (F := Ideal) (φ := .f32) .oge x y = 1#1 ↔ y ≤ x :=
  (ofBool_eq_one_iff _).trans decide_eq_true_iff
theorem cmp_gt {x y : EReal} : FloatOps.cmpf (F := Ideal) (φ := .f32) .ogt x y = 1#1 ↔ y < x :=
  (ofBool_eq_one_iff _).trans decide_eq_true_iff
theorem cmp_eq {x y : EReal} : FloatOps.cmpf (F := Ideal) (φ := .f32) .oeq x y = 1#1 ↔ x = y :=
  (ofBool_eq_one_iff _).trans decide_eq_true_iff

/-! ## The two tables -/

/-- The precondition, entry by entry. -/
structure Holds (ri ro : FVec Ideal S10000 .f32) : Prop where
  step : ∀ n, n + 1 < 10000 → (ri (pos n) : EReal) ≤ ri (pos (n + 1))
  ramp : ∀ n, n < 10000 → (ro (pos n) : EReal) = Ideal.div ((n : ℝ) : EReal) ((9999 : ℝ) : EReal)

theorem slice_apply (off : Fin 1 → Nat) (h : S10000.Slices off S9999) (t : FVec Ideal S10000 .f32) (n : Fin 9999)
    (hn : off 0 + n.val < 10000) : extractStridedSlice S9999 off t h (Shape.Idx.ofFin n) = t (pos (off 0 + n.val)) := by
  refine congrArg t (funext fun a => Fin.ext ?_)
  obtain rfl : a = 0 := Subsingleton.elim _ _
  exact (Nat.mod_eq_of_lt hn).symm

theorem holds_of_fn (x : FVec Ideal S16384x1 .f32) (ri ro : FVec Ideal S10000 .f32)
    (h : Cert.Pre_ramp.fn (F := Ideal) x ri ro = fun _ => 1#1) : Holds ri ro := by
  have h0 := congrFun h (Shape.Idx.first Gen.h_S_)
  obtain ⟨hs, hr⟩ := IntOp.andi_eq_one.mp h0
  constructor
  · intro n hn
    have := reduce_andi_one _ _ _ _ _ hs (Shape.Idx.ofFin (⟨n, by omega⟩ : Fin 9999)) (funext fun a => a.elim0)
    have e := cmp_le.mp this
    beta_reduce at e
    rw [slice_apply ![0] _ ri ⟨n, by omega⟩ (by show 0 + n < 10000; omega),
      slice_apply ![1] _ ri ⟨n, by omega⟩ (by show 1 + n < 10000; omega)] at e
    have h1 : (![0] : Fin 1 → Nat) 0 + n = n := Nat.zero_add n
    have h2 : (![1] : Fin 1 → Nat) 0 + n = n + 1 := Nat.add_comm 1 n
    dsimp only at e h1 h2
    rw [h1, h2] at e
    exact e
  · intro n hn
    have := reduce_andi_one _ _ _ _ _ hr (pos n) (funext fun a => a.elim0)
    have e := cmp_eq.mp this
    refine e.trans ?_
    show Ideal.div (((BitVec.ofNat 32 (n % 10000)).toInt : ℝ) : EReal) (Ideal.ofBits .f32 0x461C3C00#32) = _
    rw [ideal_last, Nat.mod_eq_of_lt hn, toInt_ofNat_small n (by omega)]
    rfl

theorem Holds.le {ri ro : FVec Ideal S10000 .f32} (h : Holds ri ro) {n : Nat} :
    ∀ {k : Nat}, n ≤ k → k < 10000 → (ri (pos n) : EReal) ≤ ri (pos k) := by
  intro k hk
  induction k, hk using Nat.le_induction with
  | base => intro _; exact le_refl _
  | succ k _ ih => intro hk'; exact (ih (by omega)).trans (h.step k hk')

end Cert.Proof.Ramp

end
-- ==== Proof.RefValue.lean ====
/-
  The reference's pieces, read at one index: the position that `argmax` finds, the entry that `take` reads.
-/
module

public import proofs.«01_k».proof.Proof.RefRun
public import proofs.«01_k».proof.Proof.Search
public import Idealize.ShloMosaic.PureOps.Reduce
public import Idealize.ShloMosaic.Lib.StableHlo.Predicate
public import Idealize.ShloMosaic.Lib.ValueIdx
public import Idealize.ShloMosaic.Lib.Affine

@[expose] public section

noncomputable section

namespace Cert.Proof.RefValue

open Cert.ReferenceIdeal Cert.ReferenceIdeal.Gen
open Cert.Proof.Search (pos)
open Cert.Proof.RefRun
open Idealize.ShloMosaic Idealize.ShloMosaic.StableHlo.Predicate

/-! ## The position found -/

/-- What the fold over a row's (flag, position) pairs holds as long as it has not met position `c`, the first flagged one:
    the initial value, or an unflagged pair, or a flagged pair from position `c` on. -/
def Ahead (c : Nat) (r : BitVec 16 × BitVec 32) : Prop :=
  (r.1 = 32768#16 ∨ r.1 = 0#16) ∨ (r.1 = 1#16 ∧ c ≤ r.2.toNat ∧ r.2.toNat < 10000)

/-- The reducer in words: the pair of the larger flag, of two equal flags the smaller position. -/
theorem reducer_eq (a b : BitVec 16) (x y : BitVec 32) :
    reducer_argmax_i16_i32 (a, x) (b, y)
      = (if BitVec.slt b a then a else b, if BitVec.slt b a ∨ (a = b ∧ BitVec.slt x y) then x else y) := by
  have hq : a = b ↔ (a == b) = true := beq_iff_eq.symm
  simp only [reducer_argmax_i16_i32, IntOp.cmpi, IntOp.ori, IntOp.andi, Scalar.select, bne_self_eq_false, hq]
  generalize BitVec.slt b a = p
  generalize (a == b) = q
  generalize BitVec.slt x y = r
  cases p <;> cases q <;> cases r <;> simp

theorem slt_iff (x y : BitVec 32) (hx : x.toNat < 10000) (hy : y.toNat < 10000) : BitVec.slt x y = true ↔ x.toNat < y.toNat :=
  (ofBool_eq_one_iff _).symm.trans (slt_bool_iff_toNat (by omega) (by omega))

theorem reducer_ahead {c : Nat} {r e : BitVec 16 × BitVec 32} (hr : Ahead c r) (he : Ahead c e) :
    Ahead c (reducer_argmax_i16_i32 r e) := by
  obtain ⟨a, x⟩ := r
  obtain ⟨b, y⟩ := e
  rw [reducer_eq]
  unfold Ahead at *
  dsimp only at *
  rcases hr with (rfl | rfl) | ⟨rfl, hx, hx'⟩ <;> rcases he with (rfl | rfl) | ⟨rfl, hy, hy'⟩ <;> simp <;> (try split) <;> simp [*]

theorem reducer_hit {c : Nat} (hc : c < 10000) {r : BitVec 16 × BitVec 32} (hr : Ahead c r) :
    reducer_argmax_i16_i32 r (1#16, BitVec.ofNat 32 c) = (1#16, BitVec.ofNat 32 c) := by
  obtain ⟨a, x⟩ := r
  rw [reducer_eq]
  have hn : (BitVec.ofNat 32 c).toNat = c := by rw [BitVec.toNat_ofNat]; omega
  rcases hr with (h | h) | ⟨h, hx, hx'⟩ <;> dsimp only at * <;> subst h
  · simp
  · simp
  · have : ¬ BitVec.slt x (BitVec.ofNat 32 c) = true := by rw [slt_iff _ _ hx' (by omega)]; omega
    simp [this]

theorem reducer_stay {c : Nat} (hc : c < 10000) {e : BitVec 16 × BitVec 32} (he : Ahead c e) :
    reducer_argmax_i16_i32 (1#16, BitVec.ofNat 32 c) e = (1#16, BitVec.ofNat 32 c) := by
  obtain ⟨b, y⟩ := e
  rw [reducer_eq]
  have hn : (BitVec.ofNat 32 c).toNat = c := by rw [BitVec.toNat_ofNat]; omega
  rcases he with (h | h) | ⟨h, hy, hy'⟩ <;> dsimp only at * <;> subst h
  · simp
  · simp
  · have hs := slt_iff (BitVec.ofNat 32 c) y (by omega) hy'
    by_cases h : BitVec.slt (BitVec.ofNat 32 c) y = true
    · simp [h]
    · have : y = BitVec.ofNat 32 c := BitVec.eq_of_toNat_eq (by rw [hs] at h; omega)
      simp [this]

theorem foldl_ahead {c : Nat} : ∀ (l : List (BitVec 16 × BitVec 32)) (r : BitVec 16 × BitVec 32), Ahead c r → (∀ e ∈ l, Ahead c e) →
    Ahead c (l.foldl reducer_argmax_i16_i32 r)
  | [], _, hr, _ => hr
  | e :: l, _, hr, hl => foldl_ahead l _ (reducer_ahead hr (hl e (by simp))) fun e' h => hl e' (by simp [h])

theorem foldl_stay {c : Nat} (hc : c < 10000) : ∀ l : List (BitVec 16 × BitVec 32), (∀ e ∈ l, Ahead c e) →
    l.foldl reducer_argmax_i16_i32 (1#16, BitVec.ofNat 32 c) = (1#16, BitVec.ofNat 32 c)
  | [], _ => rfl
  | e :: l, hl => by
    rw [List.foldl_cons, reducer_stay hc (hl e (by simp))]
    exact foldl_stay hc l fun e' h => hl e' (by simp [h])

/-- A fold that meets the pair of position `c`, all other pairs ahead of it, ends at that pair. -/
theorem foldl_hit {c : Nat} (hc : c < 10000) (l : List (BitVec 16 × BitVec 32)) (r : BitVec 16 × BitVec 32) (hr : Ahead c r)
    (hl : ∀ e ∈ l, Ahead c e) (hm : (1#16, BitVec.ofNat 32 c) ∈ l) :
    l.foldl reducer_argmax_i16_i32 r = (1#16, BitVec.ofNat 32 c) := by
  obtain ⟨l₁, l₂, rfl⟩ := List.append_of_mem hm
  rw [List.foldl_append, List.foldl_cons, reducer_hit hc (foldl_ahead l₁ r hr fun e h => hl e (by simp [h]))]
  exact foldl_stay hc l₂ fun e h => hl e (by simp [h])

/-- The row of a source index. -/
theorem drop_row (i : S16384x10000.Idx) : (reducesTo_S16384x10000_S16384_d1.drop i 0 : Nat) = i 0 :=
  reducesTo_S16384x10000_S16384_d1.drop_apply_val_of_eq i 0 0

/-- What a row's list of pairs holds. -/
theorem mem_fiber {s o : Shape} {α β : Type} {dims : List (Fin s.rank)} (x : s.Idx → α) (y : s.Idx → β) (h : s.ReducesTo dims o) (j : o.Idx)
    (e : α × β) : e ∈ Host.argReduceFiber x y h j ↔ ∃ i, h.drop i = j ∧ (x i, y i) = e := by
  unfold Host.argReduceFiber
  rw [List.mem_map]
  constructor
  · rintro ⟨n, hn, rfl⟩
    exact ⟨_, of_decide_eq_true (List.mem_filter.mp hn).2, rfl⟩
  · rintro ⟨i, hi, rfl⟩
    exact ⟨s.rowMajor i, List.mem_filter.mpr ⟨List.mem_finRange _, decide_eq_true (by rw [Equiv.symm_apply_apply]; exact hi)⟩,
      by rw [Equiv.symm_apply_apply]⟩

/-- One pair of a row in which no position below `c` is flagged. -/
theorem pair_ahead (w : BitVec 1) (n c : Nat) (hn : n < 10000) (hw : n < c → w = 0#1) : Ahead c (w.setWidth 16, BitVec.ofNat 32 n) := by
  have hm : (BitVec.ofNat 32 n).toNat = n := by rw [BitVec.toNat_ofNat]; omega
  rcases BitVec.eq_zero_or_eq_one w with h | h
  · exact Or.inl (Or.inr (by rw [h]; rfl))
  · refine Or.inr ⟨by rw [h]; rfl, ?_, ?_⟩ <;> dsimp only <;> rw [hm]
    · by_contra hlt
      exact absurd (h.symm.trans (hw (by omega))) (by decide)
    · exact hn

/-- A two-operand reduction at an index, from named initial values. -/
theorem reduce2_foldl {s o u : Shape} {α β : Type} {dims : List (Fin s.rank)} (f : α × β → α × β → α × β) (x : s.Idx → α) (y : s.Idx → β)
    (ix : u.Idx → α) (iy : u.Idx → β) (h : s.ReducesTo dims o) (hu : 0 < u.numel) (j : o.Idx) {a : α} {b : β}
    (ha : ix (Shape.Idx.first hu) = a) (hb : iy (Shape.Idx.first hu) = b) :
    Host.reduce2 f x y ix iy h hu j = (Host.argReduceFiber x y h j).foldl f (a, b) := by
  subst ha
  subst hb
  exact Host.reduce2_eq_foldl_fiber f x y ix iy h hu j

/-- A row's (flag, position) pairs. -/
def pairs (b : IVec S16384x10000 1) (j : S16384.Idx) : List (BitVec 16 × BitVec 32) :=
  Host.argReduceFiber (extui 16 b natLt_1_16) (iotaInDim S16384x10000 32 1) reducesTo_S16384x10000_S16384_d1 j

theorem argmax_fun (b : IVec S16384x10000 1) : argmax b = fun j =>
    (Host.reduce2 reducer_argmax_i16_i32 (extui 16 b natLt_1_16) (iotaInDim S16384x10000 32 1) (constantI S_ 16 32768#16)
      (constantI S_ 32 0#32) reducesTo_S16384x10000_S16384_d1 h_S_ j).2 :=
  rfl

theorem argmax_eq (b : IVec S16384x10000 1) (j : S16384.Idx) :
    argmax b j = ((pairs b j).foldl reducer_argmax_i16_i32 (32768#16, 0#32)).2 := by
  refine (congrFun (argmax_fun b) j).trans ?_
  have h : Host.reduce2 reducer_argmax_i16_i32 (extui 16 b natLt_1_16) (iotaInDim S16384x10000 32 1) (constantI S_ 16 32768#16)
      (constantI S_ 32 0#32) reducesTo_S16384x10000_S16384_d1 h_S_ j = (pairs b j).foldl reducer_argmax_i16_i32 (32768#16, 0#32) := by
    unfold pairs
    exact reduce2_foldl _ _ _ _ _ _ _ j rfl rfl
  generalize (pairs b j).foldl reducer_argmax_i16_i32 (32768#16, 0#32) = r at h ⊢
  exact congrArg Prod.snd h

theorem mem_pairs (b : IVec S16384x10000 1) (j : S16384.Idx) (e : BitVec 16 × BitVec 32) :
    e ∈ pairs b j ↔ ∃ i : S16384x10000.Idx, (i 0 : Nat) = j 0 ∧ ((b i).setWidth 16, BitVec.ofNat 32 (i 1 : Nat)) = e := by
  unfold pairs
  rw [mem_fiber]
  refine exists_congr fun i => and_congr ⟨fun h => by rw [← drop_row i, h], fun h => funext fun a => Fin.ext ?_⟩ Iff.rfl
  obtain rfl : a = 0 := Subsingleton.elim _ _
  rw [drop_row, h]

/-- The first flagged position of a row is what `argmax` finds there. -/
theorem argmax_apply (b : IVec S16384x10000 1) (j : S16384.Idx) (c : Nat) (hc : c < 10000)
    (hone : ∃ i : S16384x10000.Idx, (i 0 : Nat) = j 0 ∧ (i 1 : Nat) = c ∧ b i = 1#1)
    (hbelow : ∀ i : S16384x10000.Idx, (i 0 : Nat) = j 0 → (i 1 : Nat) < c → b i = 0#1) : argmax b j = BitVec.ofNat 32 c := by
  rw [argmax_eq, foldl_hit hc _ _ (Or.inl (Or.inl rfl))]
  · intro e he
    obtain ⟨i, h0, rfl⟩ := (mem_pairs b j e).mp he
    exact pair_ahead (b i) (i 1) c (i 1).isLt (hbelow i h0)
  · obtain ⟨i, h0, h1, hb⟩ := hone
    refine (mem_pairs b j _).mpr ⟨i, h0, ?_⟩
    rw [hb, h1]
    rfl

/-! ## The entry read -/

theorem pos_eq {n : Nat} (hn : n < 10000) : (pos n : S10000.Idx) = Shape.Idx.ofFin ⟨n, hn⟩ := by
  funext a
  obtain rfl : a = 0 := Subsingleton.elim _ _
  exact Fin.ext (Nat.mod_eq_of_lt hn)

theorem period_eq (i : S_.Idx) : period i = 10000#32 := rfl

/-- A position of the table is not moved by the wrap-around. -/
theorem wrap_apply (i : IVec S16384 32) (j : S16384.Idx) (n : Nat) (hn : n < 10000) (hi : i j = BitVec.ofNat 32 n) :
    wrap i j = BitVec.ofNat 32 n := by
  have hr : IntOp.remsi .host (BitVec.ofNat 32 n) 10000#32 = BitVec.ofNat 32 n := by
    have h10 : (10000#32 : BitVec 32).toInt = 10000 := by decide
    rw [IntOp.remsi_of_pos .host (by rw [h10]; decide)]
    refine BitVec.eq_of_toInt_eq ?_
    rw [BitVec.toInt_srem, h10, toInt_ofNat_small n (by omega)]
    exact Int.tmod_eq_of_lt (by omega) (by omega)
  have hs : BitVec.slt (BitVec.ofNat 32 n) 0#32 = false := by
    rw [BitVec.slt_eq_decide, toInt_ofNat_small n (by omega)]
    simp
  show Scalar.select (IntOp.andi (IntOp.cmpi .ne (IntOp.cmpi .slt (IntOp.remsi .host (i j) 10000#32) 0#32) (IntOp.cmpi .slt 10000#32 0#32)) _)
    _ (IntOp.remsi .host (i j) 10000#32) = _
  rw [hi, hr]
  have h1 : IntOp.cmpi .slt (BitVec.ofNat 32 n) 0#32 = 0#1 := by simp [IntOp.cmpi, hs]
  have h2 : IntOp.cmpi .ne (0#1 : BitVec 1) (IntOp.cmpi .slt (10000#32 : BitVec 32) 0#32) = 0#1 := by decide
  rw [h1, h2]
  simp [IntOp.andi, Scalar.select]

/-- The table at a position of it. -/
theorem take_apply {F : FTy → Type} [FloatOps F] (t : FVec F S10000 .f32) (i : IVec S16384 32) (j : S16384.Idx) (n : Nat)
    (hn : n < 10000) (hi : i j = BitVec.ofNat 32 n) : take t i j = t (pos n) := by
  obtain ⟨p, rfl⟩ : ∃ p : Fin 16384, j = Shape.Idx.ofFin p := ⟨j 0, funext fun a => by
    obtain rfl : a = 0 := Subsingleton.elim _ _
    rfl⟩
  have hw := wrap_apply i _ n hn hi
  unfold take
  generalize wrap i = w at hw ⊢
  rw [gather_take gather_S10000_S16384x1_S16384_n_0_n_n_0_1_1 rfl rfl rfl rfl t _ p (by norm_num), pos_eq hn]
  refine congrArg (fun k => t (Shape.Idx.ofFin k)) (Fin.ext ?_)
  have h := (bcast_col1 bcast_S16384_S16384x1_0 w p).trans hw
  refine (congrArg (fun v : BitVec 32 => min v.toInt.toNat 9999) h).trans ?_
  show min (BitVec.ofNat 32 n).toInt.toNat 9999 = n
  rw [toInt_ofNat_small n (by omega)]
  omega

theorem before_apply (i : IVec S16384 32) (j : S16384.Idx) (n : Nat) (hn : n + 1 < 10000) (hi : i j = BitVec.ofNat 32 (n + 1)) :
    before i j = BitVec.ofNat 32 n := by
  show i j - 1#32 = _
  rw [hi, sub_one_ofNat _ (by omega) (by omega)]
  rfl

end Cert.Proof.RefValue

end
-- ==== Proof.Equation.lean ====
/-
  The equation between the two programs' results at one number, over the extended reals.

  The kernel divides the number's place by 9999; the reference interpolates between the second table's entries, which
  are their positions divided by 9999. Where the bracket's ends are infinite both give the lower end's value.
-/
module

public import proofs.«01_k».proof.Proof.Ramp
public import proofs.«01_k».proof.Proof.RefValue

@[expose] public section

noncomputable section

namespace Cert.Proof.Equation

open Cert.ReferenceIdeal Cert.ReferenceIdeal.Gen
open Cert.Proof.Search Cert.Proof.RefRun Cert.Proof.RefValue Cert.Proof.Ramp
open Idealize.ShloMosaic Idealize.ShloMosaic.StableHlo.Predicate Idealize.ShloMosaic.ValueIdx

/-! ## The line through a bracket's ends -/

theorem div_top (x : EReal) : Ideal.div x ⊤ = 0 := by
  rw [Ideal.div, if_neg EReal.top_ne_zero, EReal.inv_top, mul_zero]

theorem div_coe (a b : ℝ) (hb : b ≠ 0) : Ideal.div (a : EReal) (b : EReal) = ((a / b : ℝ) : EReal) := by
  rw [Ideal.div, if_neg (by exact_mod_cast hb), ← EReal.coe_inv, ← EReal.coe_mul, div_eq_mul_inv]

/-- The place in bracket `k`, divided by 9999, is the line from `k / 9999` to `(k + 1) / 9999` over the bracket. -/
theorem line_eq (k : ℕ) (x lo hi : EReal) (h1 : lo ≤ x) (h2 : x < hi) (h3 : ⊥ < x) :
    (((k : ℝ) : EReal) + Ideal.div (x - lo) (hi - lo)) * ((9999⁻¹ : ℝ) : EReal)
      = Ideal.div ((k : ℝ) : EReal) ((9999 : ℝ) : EReal)
        + Ideal.div (Ideal.div (((k + 1 : ℕ) : ℝ) : EReal) ((9999 : ℝ) : EReal) - Ideal.div ((k : ℝ) : EReal) ((9999 : ℝ) : EReal)) (hi - lo)
          * (x - lo) := by
  have h9 : (9999 : ℝ) ≠ 0 := by norm_num
  rw [div_coe _ _ h9, div_coe _ _ h9]
  by_cases hd : hi - lo = ⊤
  · rw [hd, div_top, div_top, add_zero, zero_mul, add_zero, ← EReal.coe_mul, div_eq_mul_inv]
  · have hlo : lo ≠ ⊥ := by
      rintro rfl
      exact hd (EReal.sub_bot (ne_of_gt (h3.trans h2)))
    lift lo to ℝ using ⟨ne_top_of_lt (h1.trans_lt h2), hlo⟩
    have hhi : hi ≠ ⊤ := by
      rintro rfl
      exact hd (EReal.top_sub_coe lo)
    have hx : x ≠ ⊤ := ne_top_of_lt h2
    lift x to ℝ using ⟨hx, h3.ne'⟩
    lift hi to ℝ using ⟨hhi, ne_bot_of_gt h2⟩
    have h2' : x < hi := by exact_mod_cast h2
    have h1' : lo ≤ x := by exact_mod_cast h1
    have hne : hi - lo ≠ 0 := by linarith
    rw [← EReal.coe_sub, ← EReal.coe_sub, ← EReal.coe_sub, div_coe _ _ hne, div_coe _ _ hne, ← EReal.coe_add, ← EReal.coe_mul,
      ← EReal.coe_mul, ← EReal.coe_add]
    congr 1
    push_cast
    field_simp
    ring

/-! ## The reference's result at one number -/

/-- The table's first entry and its last, as the reference slices them. -/
theorem first_apply (t : FVec Ideal S10000 .f32) (i : S_.Idx) : first t i = t (pos 0) := by
  refine congrArg t (funext fun a => Fin.ext ?_)
  obtain rfl : a = 0 := Subsingleton.elim _ _
  show 0 + _ = 0 % 10000
  have h : (Shape.reshapeEquiv shapeCasts_S1_S_ i 0 : Nat) < 1 := (Shape.reshapeEquiv shapeCasts_S1_S_ i 0).isLt
  have h' : (Shape.reshapeEquiv shapeCasts_S1_S_ i 0 : Nat) = 0 := by omega
  exact congrArg (0 + ·) h'

theorem last_apply (t : FVec Ideal S10000 .f32) (i : S_.Idx) : last t i = t (pos 9999) := by
  refine congrArg t (funext fun a => Fin.ext ?_)
  obtain rfl : a = 0 := Subsingleton.elim _ _
  show 9999 + _ = 9999 % 10000
  have h : (Shape.reshapeEquiv shapeCasts_S1_S_ i 0 : Nat) < 1 := (Shape.reshapeEquiv shapeCasts_S1_S_ i 0).isLt
  have h' : (Shape.reshapeEquiv shapeCasts_S1_S_ i 0 : Nat) = 0 := by omega
  exact congrArg (9999 + ·) h'

/-- A flag of row `j` is set exactly where the table's entry exceeds number `j`. -/
theorem above_apply (x : FVec Ideal S16384 .f32) (t : FVec Ideal S10000 .f32) (i : S16384x10000.Idx) (j : S16384.Idx)
    (h : (i 0 : Nat) = j 0) : above x t i = 1#1 ↔ (x j : EReal) < t (pos (i 1)) := by
  obtain ⟨p, q, rfl⟩ : ∃ (p : Fin 16384) (q : Fin 10000), i = ij p q := ⟨i 0, i 1, (ij_eta i).symm⟩
  have hj : Shape.Idx.ofFin p = j := funext fun a => Fin.ext (by
    obtain rfl : a = 0 := Subsingleton.elim _ _
    exact h)
  refine Iff.trans ?_ (cmp_gt (x := t (pos q)) (y := x j))
  have e1 := bcast_cols bcast_S10000_S1x10000_1 bcast_S1x10000_S16384x10000_0_1 t p q
  have e2 := bcast_rows bcast_S16384_S16384x1_0 bcast_S16384x1_S16384x10000_0_1 x p q
  rw [← pos_eq q.isLt] at e1
  rw [hj] at e2
  rw [← e1, ← e2]
  exact Iff.rfl

/-- At one number, the reference's result is the kernel's. -/
theorem point_eq (ri ro : FVec Ideal S10000 .f32) (hR : Holds ri ro) (x : FVec Ideal S16384 .f32) (j : S16384.Idx) :
    point (F := Ideal) ri (x j) = flat x ri ro (argmax (above x ri)) j := by
  have hinv : Named.named (F := Ideal) (φ := .f32) Cert.KernelIdeal.κ "inv" 0x38D1BC76#32 = ((9999⁻¹ : ℝ) : EReal) :=
    IdealRules.named_const.ideal_named_scalar Cert.KernelIdeal.κ "inv" _ _ rfl
  have h9 : (9999 : ℝ) ≠ 0 := by norm_num
  have hflat : flat x ri ro (argmax (above x ri)) j
      = Scalar.select (FloatOps.cmpf .oge (x j) (ri (pos 9999))) (ro (pos 9999))
          (Scalar.select (FloatOps.cmpf .ole (x j) (ri (pos 0))) (ro (pos 0))
            (line x (take ri (argmax (above x ri))) (take ri (before (argmax (above x ri)))) (take ro (argmax (above x ri)))
              (take ro (before (argmax (above x ri)))) j)) := by
    rw [← last_apply ri, ← last_apply ro, ← first_apply ri, ← first_apply ro]
    rfl
  rw [hflat]
  unfold point
  by_cases hl : (ri (pos 9999) : EReal) ≤ x j
  · rw [cmp_ge.mpr hl, select_one, select_one, hR.ramp 9999 (by norm_num)]
    refine Eq.trans ?_ (div_coe _ _ h9).symm
    refine ideal_one.trans ?_
    norm_num
  rw [eq_zero_of_ne_one (mt cmp_ge.mp hl), select_zero, select_zero]
  by_cases hf : (x j : EReal) ≤ ri (pos 0)
  · rw [cmp_le.mpr hf, select_one, select_one, hR.ramp 0 (by norm_num)]
    refine Eq.trans ?_ (div_coe _ _ h9).symm
    refine Ideal.ofBits_zero_f32.trans ?_
    norm_num
  rw [eq_zero_of_ne_one (mt cmp_le.mp hf), select_zero, select_zero, hinv]
  obtain ⟨hb, hn⟩ := base_spec (F := Ideal) ri (x j) (fun n => (ri (pos n) : EReal) ≤ x j) (fun n _ => cmp_le.symm)
    (fun n n' h h' hp => (hR.le h h').trans hp) hl
  have hc := base_le (F := Ideal) ri (x j) (le_refl 14)
  have hu := upper_toNat (F := Ideal) ri (x j)
  have hlo := lower_toNat (F := Ideal) ri (x j)
  generalize (base (F := Ideal) ri (x j) 14).toNat = c at hb hn hc hu hlo
  obtain ⟨k, rfl⟩ : ∃ k, c = k + 1 := by
    rcases c with _ | k
    · exact absurd (le_of_lt (not_le.mp hf)) hn
    · exact ⟨k, rfl⟩
  have ha : argmax (above x ri) j = BitVec.ofNat 32 (k + 1) := by
    refine argmax_apply _ j (k + 1) (by omega) ⟨ij (j 0) ⟨k + 1, by omega⟩, rfl, rfl, ?_⟩ ?_
    · exact (above_apply x ri _ j rfl).mpr (not_le.mp hn)
    · intro i h0 h1
      exact eq_zero_of_ne_one fun h => absurd (hb _ h1) (not_le.mpr ((above_apply x ri i j h0).mp h))
  have hp := before_apply _ j k (by omega) ha
  have hlow : lower (F := Ideal) ri (x j) = BitVec.ofNat 32 k :=
    BitVec.eq_of_toNat_eq (by rw [hlo, BitVec.toNat_ofNat]; omega)
  have hline : line x (take ri (argmax (above x ri))) (take ri (before (argmax (above x ri)))) (take ro (argmax (above x ri)))
      (take ro (before (argmax (above x ri)))) j
      = (ro (pos k) : EReal) + Ideal.div ((ro (pos (k + 1)) : EReal) - ro (pos k)) ((ri (pos (k + 1)) : EReal) - ri (pos k))
          * ((x j : EReal) - ri (pos k)) := by
    rw [← take_apply ri _ j (k + 1) (by omega) ha, ← take_apply ro _ j (k + 1) (by omega) ha, ← take_apply ri _ j k (by omega) hp,
      ← take_apply ro _ j k (by omega) hp]
    rfl
  rw [hline, hR.ramp k (by omega), hR.ramp (k + 1) (by omega)]
  refine Eq.trans ?_ (line_eq k (x j) (ri (pos k)) (ri (pos (k + 1))) (hb k (by omega)) (not_le.mp hn) ?_)
  · have e1 : (upper (F := Ideal) ri (x j)).toNat = k + 1 := by omega
    have e2 : (lower (F := Ideal) ri (x j)).toNat = k := by omega
    rw [e1, e2, hlow]
    show (((BitVec.ofNat 32 k).toInt : ℝ) + Ideal.div _ _) * _ = _
    rw [toInt_ofNat_small k (by omega)]
    rfl
  · exact lt_of_le_of_lt bot_le (not_le.mp hf)

end Cert.Proof.Equation

end
-- ==== Proof.Value.lean ====
/-
  The reference's frame, and the claim that the two programs' results are equal.
-/
module

public import proofs.«01_k».proof.Defs
public import proofs.«01_k».proof.Proof.Gen.Pre_ramp
public import proofs.«01_k».proof.Proof.Launch
public import proofs.«01_k».proof.Proof.RefRun
public import proofs.«01_k».proof.Proof.Ramp
public import proofs.«01_k».proof.Proof.Equation
public import Idealize.ShloMosaic.Lib.Quiescent

@[expose] public section

noncomputable section

namespace Cert.Proof.Value

open Idealize.ShloMosaic Idealize.SL.Sem

/-- The reference's frame: it writes no argument, and it has no semaphores. -/
theorem frame : Cert.quiescent_ReferenceIdeal := fun m ρ _ =>
  (θ_run (Cert.ReferenceIdeal.defs (F := Ideal)) _ _).mono (fun r h =>
    ⟨fun c => ⟨(h c Cert.ReferenceIdeal.main_arg0).trans (RefRun.arg0_eq _), (h c Cert.ReferenceIdeal.main_arg1).trans (RefRun.arg1_eq _),
      (h c Cert.ReferenceIdeal.main_arg2).trans (RefRun.arg2_eq _)⟩, sem_eq_zero_of_no_sems (by decide) r.2⟩)
    (RefRun.run_main (F := Ideal) m ρ)

/-- The same under the precondition, which it does not use. -/
theorem frame_ramp : Cert.quiescent_ReferenceIdeal_pre_ramp := fun m ρ _ => frame m ρ trivial

section Kernel

open Cert.KernelIdeal Cert.KernelIdeal.Gen Cert.Proof.Launch Cert.Proof.Tile

variable {F : FTy → Type} [FloatOps F] [Named F] (m : (ℓ : Loc nD τ sig) → Buf (Elt F) ℓ)

/-- What the kernel leaves, from its arguments. -/
def kernelOut (x : FVec F S16384x1 .f32) (tab : FVec F S10000 .f32) : FVec F S16384x1 .f32 :=
  broadcastInDim S16384x1 ![0] bcast_S16384_S16384x1_0 fun j => Search.point tab (shapeCast S16384 x shapeCasts_S16384x1_S16384 j)

theorem out_eq (d : Dev nD) : out m d = kernelOut (m (aLoc d)) (m (tLoc d)) := by
  have h1 : nums m d = shapeCast S16384 (m (aLoc d)) shapeCasts_S16384x1_S16384 := funext (nums_apply m d)
  have h2 : out m d = broadcastInDim S16384x1 ![0] bcast_S16384_S16384x1_0 (V2 m d (Tile.res (F := F) (tab m d) (nums m d)) o') := by
    unfold out V3
    rw [StableHlo.unary_result']
  rw [h2, V2_o, h1]
  rfl

end Kernel

/-- The two results are equal, from equal arguments of which the precondition holds. -/
theorem out_eq_out (x : FVec Ideal Cert.ReferenceIdeal.S16384x1 .f32) (ri ro : FVec Ideal Cert.ReferenceIdeal.S10000 .f32)
    (h : Ramp.Holds ri ro) : RefRun.out x ri ro = kernelOut (F := Ideal) x ri := by
  unfold RefRun.out kernelOut
  exact congrArg _ (funext fun j => (Equation.point_eq ri ro h _ j).symm)

theorem equal : Cert.algebraic_KernelIdeal_ReferenceIdeal_pre_ramp := by
  intro m ρ m' ρ' hpre hagree
  refine ⟨fun c => Launch.out m c, ?_, ?_⟩
  · exact (θ_run (Cert.KernelIdeal.defs (F := Ideal)) _ _).mono (fun _ h => h.1) (Launch.run_main (F := Ideal) m ρ)
  · refine (θ_run (Cert.ReferenceIdeal.defs (F := Ideal)) _ _).mono (fun r h c => ?_) (RefRun.run_main (F := Ideal) m' ρ')
    refine ⟨?_, (h c Cert.ReferenceIdeal.main_arg0).trans (RefRun.arg0_eq _), (h c Cert.ReferenceIdeal.main_arg1).trans (RefRun.arg1_eq _),
      (h c Cert.ReferenceIdeal.main_arg2).trans (RefRun.arg2_eq _)⟩
    obtain ⟨h0, h1, h2⟩ := hagree c
    have hR := Ramp.holds_of_fn _ _ _ (hpre c)
    have e := out_eq_out (m (Launch.aLoc c)) _ _ hR
    rw [← h0, ← h1, ← h2] at e
    refine (h c Cert.ReferenceIdeal.main_v36).trans ((RefRun.out_eq _).trans (Eq.trans e ?_))
    rw [h0, h1]
    exact (out_eq m c).symm

end Cert.Proof.Value

end
-- ==== Proof.lean ====
/-
  The proof of the certificate's claims: each conjunct is a theorem of the modules under Proof/.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_ramp
public import proofs.«01_k».proof.Proof.Same
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_ramp.Gen.facts,
    Same.frame, Same.frame_ideal, Same.frame_ideal_ramp, Value.frame, Value.frame_ramp,
    IdealRules.named_const.statement Cert.KernelIdeal.κ "inv" .f32 0x38D1BC76#32 ((9999⁻¹ : ℝ) : EReal) rfl, Value.equal⟩

end Cert.Proof

end
